-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  reducesTo_S512x1024_S_d0_1 : S512x1024.ReducesTo [0, 1] S_
  h_S_ : 0 < S_.numel
  reducesTo_S1024x8192_S_d0_1 : S1024x8192.ReducesTo [0, 1] S_

variable [Facts]

def fn {F : FTy → Type} [FloatOps F] (main_arg0 : FVec F S512x1024 .f32) (main_arg1 : FVec F S1024x8192 .f32) : IVec S_ 1 :=
  let main_v0 : FVec F S512x1024 .f32 := Host.absf main_arg0
  let main_cst : FVec F S_ .f32 := constant S_ .f32 0xFF800000#32
  let main_v1 : FVec F S_ .f32 := (fun x v => Host.reduce FloatOps.maximumf x v reducesTo_S512x1024_S_d0_1 h_S_) main_v0 main_cst
  let main_cst_0 : FVec F S_ .f32 := constant S_ .f32 0x7F800000#32
  let main_v2 : IVec S_ 1 := cmpf .olt main_v1 main_cst_0
  let main_v3 : FVec F S1024x8192 .f32 := Host.absf main_arg1
  let main_cst_1 : FVec F S_ .f32 := constant S_ .f32 0xFF800000#32
  let main_v4 : FVec F S_ .f32 := (fun x v => Host.reduce FloatOps.maximumf x v reducesTo_S1024x8192_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  main_v6
-- ==== Pre_finite_ReferenceIdeal.lean ====
abbrev S512x1024 : Shape := ⟨2, ![512, 1024]⟩
abbrev S1024x16384 : Shape := ⟨2, ![1024, 16384]⟩
abbrev S_ : Shape := ⟨0, ![]⟩

class Facts : Prop where
  reducesTo_S512x1024_S_d0_1 : S512x1024.ReducesTo [0, 1] S_
  h_S_ : 0 < S_.numel
  reducesTo_S1024x16384_S_d0_1 : S1024x16384.ReducesTo [0, 1] S_

variable [Facts]

def fn {F : FTy → Type} [FloatOps F] (main_arg0 : FVec F S512x1024 .f32) (main_arg1 : FVec F S1024x16384 .f32) : IVec S_ 1 :=
  let main_v0 : FVec F S512x1024 .f32 := Host.absf main_arg0
  let main_cst : FVec F S_ .f32 := constant S_ .f32 0xFF800000#32
  let main_v1 : FVec F S_ .f32 := (fun x v => Host.reduce FloatOps.maximumf x v reducesTo_S512x1024_S_d0_1 h_S_) main_v0 main_cst
  let main_cst_0 : FVec F S_ .f32 := constant S_ .f32 0x7F800000#32
  let main_v2 : IVec S_ 1 := cmpf .olt main_v1 main_cst_0
  let main_v3 : FVec F S1024x16384 .f32 := Host.absf main_arg1
  let main_cst_1 : FVec F S_ .f32 := constant S_ .f32 0xFF800000#32
  let main_v4 : FVec F S_ .f32 := (fun x v => Host.reduce FloatOps.maximumf x v reducesTo_S1024x16384_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  main_v6
-- ==== Kernel.lean ====
abbrev S512x1024 : Shape := ⟨2, ![512, 1024]⟩
abbrev S1024x8192 : Shape := ⟨2, ![1024, 8192]⟩
abbrev S512x16384 : Shape := ⟨2, ![512, 16384]⟩
abbrev S2x1024x512 : Shape := ⟨3, ![2, 1024, 512]⟩
abbrev S2x512x16 : Shape := ⟨3, ![2, 512, 16]⟩
abbrev S2 : Shape := ⟨1, ![2]⟩
abbrev S16 : Shape := ⟨1, ![16]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1x512x16 : Shape := ⟨3, ![1, 512, 16]⟩
abbrev S512x16 : Shape := ⟨2, ![512, 16]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .bf16⟩
  | .local _ .vmem, ⟨0, _⟩ => ⟨S512x1024, .f32⟩
  | .local _ .vmem, ⟨1, _⟩ => ⟨S512x16384, .bf16⟩
  | .local _ .vmem, ⟨2, _⟩ => ⟨S512x1024, .bf16⟩
  | .local _ .vmem, ⟨3, _⟩ => ⟨S2x1024x512, .f32⟩
  | .local _ .vmem, ⟨4, _⟩ => ⟨S2x512x16, .f32⟩
  | .local _ .vmem, ⟨5, _⟩ => ⟨S2x512x16, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_off1 (d0 : Dev nD) (c0_i32_45 : BitVec 32) : Fin 2 → Nat :=
  let c0_46 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let v60 : BitVec 32 := Scalar.addi v8 c0_i32_45
  let v61 : Index := Scalar.indexCast v60
  ![0, v61.toNat]
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_49 : BitVec 32 := 0#32
  let v64 : BitVec 1 := Scalar.cmpi .eq v2 c0_i32_49
  let v65 : BitVec 32 := Scalar.extui v64
  let c0_i32_52 : BitVec 32 := 0#32
  let v66 : BitVec 1 := Scalar.cmpi .ne v65 c0_i32_52
  v66

def k0_off2 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c0_i32_48 : BitVec 32 := 0#32
  let v63 : BitVec 32 := Scalar.addi v8 c0_i32_48
  ![0, v63.toNat]
def k0_dev3 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_81 : BitVec 32 := 1#32
  let v100 : BitVec 1 := Scalar.cmpi .eq v2 c1_i32_81
  let v101 : BitVec 32 := Scalar.extui v100
  let c0_i32_84 : BitVec 32 := 0#32
  let v102 : BitVec 1 := Scalar.cmpi .ne v101 c0_i32_84
  v102

def k0_off3 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c512_i32_80 : BitVec 32 := 512#32
  let v99 : BitVec 32 := Scalar.addi v8 c512_i32_80
  ![0, v99.toNat]
def k0_dev4 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond3 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_112 : BitVec 32 := 0#32
  let v136 : BitVec 1 := Scalar.cmpi .eq v2 c0_i32_112
  let v137 : BitVec 32 := Scalar.extui v136
  let c0_i32_115 : BitVec 32 := 0#32
  let v138 : BitVec 1 := Scalar.cmpi .ne v137 c0_i32_115
  v138

def k0_off4 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c1024_i32_111 : BitVec 32 := 1024#32
  let v135 : BitVec 32 := Scalar.addi v8 c1024_i32_111
  ![0, v135.toNat]
def k0_dev5 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond4 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_143 : BitVec 32 := 1#32
  let v172 : BitVec 1 := Scalar.cmpi .eq v2 c1_i32_143
  let v173 : BitVec 32 := Scalar.extui v172
  let c0_i32_145 : BitVec 32 := 0#32
  let v174 : BitVec 1 := Scalar.cmpi .ne v173 c0_i32_145
  v174

def k0_off5 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c1536_i32_142 : BitVec 32 := 1536#32
  let v171 : BitVec 32 := Scalar.addi v8 c1536_i32_142
  ![0, v171.toNat]
def k0_dev6 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond5 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_173 : BitVec 32 := 0#32
  let v208 : BitVec 1 := Scalar.cmpi .eq v2 c0_i32_173
  let v209 : BitVec 32 := Scalar.extui v208
  let c0_i32_175 : BitVec 32 := 0#32
  let v210 : BitVec 1 := Scalar.cmpi .ne v209 c0_i32_175
  v210

def k0_off6 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c2048_i32_172 : BitVec 32 := 2048#32
  let v207 : BitVec 32 := Scalar.addi v8 c2048_i32_172
  ![0, v207.toNat]
def k0_dev7 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond6 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_203 : BitVec 32 := 1#32
  let v244 : BitVec 1 := Scalar.cmpi .eq v2 c1_i32_203
  let v245 : BitVec 32 := Scalar.extui v244
  let c0_i32_205 : BitVec 32 := 0#32
  let v246 : BitVec 1 := Scalar.cmpi .ne v245 c0_i32_205
  v246

def k0_off7 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c2560_i32_202 : BitVec 32 := 2560#32
  let v243 : BitVec 32 := Scalar.addi v8 c2560_i32_202
  ![0, v243.toNat]
def k0_dev8 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond7 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_233 : BitVec 32 := 0#32
  let v280 : BitVec 1 := Scalar.cmpi .eq v2 c0_i32_233
  let v281 : BitVec 32 := Scalar.extui v280
  let c0_i32_235 : BitVec 32 := 0#32
  let v282 : BitVec 1 := Scalar.cmpi .ne v281 c0_i32_235
  v282

def k0_off8 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c3072_i32_232 : BitVec 32 := 3072#32
  let v279 : BitVec 32 := Scalar.addi v8 c3072_i32_232
  ![0, v279.toNat]
def k0_dev9 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond8 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_263 : BitVec 32 := 1#32
  let v316 : BitVec 1 := Scalar.cmpi .eq v2 c1_i32_263
  let v317 : BitVec 32 := Scalar.extui v316
  let c0_i32_265 : BitVec 32 := 0#32
  let v318 : BitVec 1 := Scalar.cmpi .ne v317 c0_i32_265
  v318

def k0_off9 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c3584_i32_262 : BitVec 32 := 3584#32
  let v315 : BitVec 32 := Scalar.addi v8 c3584_i32_262
  ![0, v315.toNat]
def k0_dev10 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond9 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_293 : BitVec 32 := 0#32
  let v352 : BitVec 1 := Scalar.cmpi .eq v2 c0_i32_293
  let v353 : BitVec 32 := Scalar.extui v352
  let c0_i32_295 : BitVec 32 := 0#32
  let v354 : BitVec 1 := Scalar.cmpi .ne v353 c0_i32_295
  v354

def k0_off10 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c4096_i32_292 : BitVec 32 := 4096#32
  let v351 : BitVec 32 := Scalar.addi v8 c4096_i32_292
  ![0, v351.toNat]
def k0_dev11 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond10 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_323 : BitVec 32 := 1#32
  let v388 : BitVec 1 := Scalar.cmpi .eq v2 c1_i32_323
  let v389 : BitVec 32 := Scalar.extui v388
  let c0_i32_325 : BitVec 32 := 0#32
  let v390 : BitVec 1 := Scalar.cmpi .ne v389 c0_i32_325
  v390

def k0_off11 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c4608_i32_322 : BitVec 32 := 4608#32
  let v387 : BitVec 32 := Scalar.addi v8 c4608_i32_322
  ![0, v387.toNat]
def k0_dev12 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond11 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_353 : BitVec 32 := 0#32
  let v424 : BitVec 1 := Scalar.cmpi .eq v2 c0_i32_353
  let v425 : BitVec 32 := Scalar.extui v424
  let c0_i32_355 : BitVec 32 := 0#32
  let v426 : BitVec 1 := Scalar.cmpi .ne v425 c0_i32_355
  v426

def k0_off12 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c5120_i32_352 : BitVec 32 := 5120#32
  let v423 : BitVec 32 := Scalar.addi v8 c5120_i32_352
  ![0, v423.toNat]
def k0_dev13 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond12 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_383 : BitVec 32 := 1#32
  let v460 : BitVec 1 := Scalar.cmpi .eq v2 c1_i32_383
  let v461 : BitVec 32 := Scalar.extui v460
  let c0_i32_385 : BitVec 32 := 0#32
  let v462 : BitVec 1 := Scalar.cmpi .ne v461 c0_i32_385
  v462

def k0_off13 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c5632_i32_382 : BitVec 32 := 5632#32
  let v459 : BitVec 32 := Scalar.addi v8 c5632_i32_382
  ![0, v459.toNat]
def k0_dev14 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond13 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_413 : BitVec 32 := 0#32
  let v496 : BitVec 1 := Scalar.cmpi .eq v2 c0_i32_413
  let v497 : BitVec 32 := Scalar.extui v496
  let c0_i32_415 : BitVec 32 := 0#32
  let v498 : BitVec 1 := Scalar.cmpi .ne v497 c0_i32_415
  v498

def k0_off14 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c6144_i32_412 : BitVec 32 := 6144#32
  let v495 : BitVec 32 := Scalar.addi v8 c6144_i32_412
  ![0, v495.toNat]
def k0_dev15 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond14 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_443 : BitVec 32 := 1#32
  let v532 : BitVec 1 := Scalar.cmpi .eq v2 c1_i32_443
  let v533 : BitVec 32 := Scalar.extui v532
  let c0_i32_445 : BitVec 32 := 0#32
  let v534 : BitVec 1 := Scalar.cmpi .ne v533 c0_i32_445
  v534

def k0_off15 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c6656_i32_442 : BitVec 32 := 6656#32
  let v531 : BitVec 32 := Scalar.addi v8 c6656_i32_442
  ![0, v531.toNat]
def k0_dev16 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond15 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_473 : BitVec 32 := 0#32
  let v568 : BitVec 1 := Scalar.cmpi .eq v2 c0_i32_473
  let v569 : BitVec 32 := Scalar.extui v568
  let c0_i32_475 : BitVec 32 := 0#32
  let v570 : BitVec 1 := Scalar.cmpi .ne v569 c0_i32_475
  v570

def k0_off16 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c7168_i32_472 : BitVec 32 := 7168#32
  let v567 : BitVec 32 := Scalar.addi v8 c7168_i32_472
  ![0, v567.toNat]
def k0_dev17 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_cond16 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_498 : BitVec 32 := 1#32
  let v599 : BitVec 1 := Scalar.cmpi .eq v2 c1_i32_498
  let v600 : BitVec 32 := Scalar.extui v599
  let c0_i32_500 : BitVec 32 := 0#32
  let v601 : BitVec 1 := Scalar.cmpi .ne v600 c0_i32_500
  v601

def k0_off17 (d0 : Dev nD) : Fin 2 → Nat :=
  let c0_i32_934 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c7680_i32_497 : BitVec 32 := 7680#32
  let v598 : BitVec 32 := Scalar.addi v8 c7680_i32_497
  ![0, v598.toNat]
def k0_dev18 (d0 : Dev nD) : Nat :=
  let c0_i32_932 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_931 : BitVec 32 := 2#32
  let v1148 : BitVec 32 := Scalar.muli v2 c2_i32_931
  let v1149 : BitVec 32 := Scalar.addi c0_i32_932 v1148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_933 : BitVec 32 := 1#32
  let v1150 : BitVec 32 := Scalar.muli v7 c1_i32_933
  let v1151 : BitVec 32 := Scalar.addi v1149 v1150
  v1151.toNat
def k0_dev19 (d0 : Dev nD) : Nat :=
  let c0_i32_504 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_503 : BitVec 32 := 2#32
  let v602 : BitVec 32 := Scalar.muli v2 c2_i32_503
  let v603 : BitVec 32 := Scalar.addi c0_i32_504 v602
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_505 : BitVec 32 := 1#32
  let v604 : BitVec 32 := Scalar.muli v7 c1_i32_505
  let v605 : BitVec 32 := Scalar.addi v603 v604
  v605.toNat
def k0_cond17 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_507 : BitVec 32 := 0#32
  let v611 : BitVec 1 := Scalar.cmpi .eq v2 c0_i32_507
  let v612 : BitVec 32 := Scalar.extui v611
  let c0_i32_512 : BitVec 32 := 0#32
  let v613 : BitVec 1 := Scalar.cmpi .ne v612 c0_i32_512
  v613

def k0_off18 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c0_i32_506 : BitVec 32 := 0#32
  let v610 : BitVec 32 := Scalar.addi v10 c0_i32_506
  ![0, v610.toNat]
def k0_dev20 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond18 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_514 : BitVec 32 := 1#32
  let v615 : BitVec 1 := Scalar.cmpi .eq v2 c1_i32_514
  let v616 : BitVec 32 := Scalar.extui v615
  let c0_i32_519 : BitVec 32 := 0#32
  let v617 : BitVec 1 := Scalar.cmpi .ne v616 c0_i32_519
  v617

def k0_off19 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c512_i32_513 : BitVec 32 := 512#32
  let v614 : BitVec 32 := Scalar.addi v10 c512_i32_513
  ![0, v614.toNat]
def k0_dev21 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond19 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_521 : BitVec 32 := 0#32
  let v619 : BitVec 1 := Scalar.cmpi .eq v2 c0_i32_521
  let v620 : BitVec 32 := Scalar.extui v619
  let c0_i32_526 : BitVec 32 := 0#32
  let v621 : BitVec 1 := Scalar.cmpi .ne v620 c0_i32_526
  v621

def k0_off20 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c1024_i32_520 : BitVec 32 := 1024#32
  let v618 : BitVec 32 := Scalar.addi v10 c1024_i32_520
  ![0, v618.toNat]
def k0_dev22 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond20 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_528 : BitVec 32 := 1#32
  let v623 : BitVec 1 := Scalar.cmpi .eq v2 c1_i32_528
  let v624 : BitVec 32 := Scalar.extui v623
  let c0_i32_533 : BitVec 32 := 0#32
  let v625 : BitVec 1 := Scalar.cmpi .ne v624 c0_i32_533
  v625

def k0_off21 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c1536_i32_527 : BitVec 32 := 1536#32
  let v622 : BitVec 32 := Scalar.addi v10 c1536_i32_527
  ![0, v622.toNat]
def k0_dev23 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond21 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_535 : BitVec 32 := 0#32
  let v627 : BitVec 1 := Scalar.cmpi .eq v2 c0_i32_535
  let v628 : BitVec 32 := Scalar.extui v627
  let c0_i32_540 : BitVec 32 := 0#32
  let v629 : BitVec 1 := Scalar.cmpi .ne v628 c0_i32_540
  v629

def k0_off22 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c2048_i32_534 : BitVec 32 := 2048#32
  let v626 : BitVec 32 := Scalar.addi v10 c2048_i32_534
  ![0, v626.toNat]
def k0_dev24 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond22 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_542 : BitVec 32 := 1#32
  let v631 : BitVec 1 := Scalar.cmpi .eq v2 c1_i32_542
  let v632 : BitVec 32 := Scalar.extui v631
  let c0_i32_547 : BitVec 32 := 0#32
  let v633 : BitVec 1 := Scalar.cmpi .ne v632 c0_i32_547
  v633

def k0_off23 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c2560_i32_541 : BitVec 32 := 2560#32
  let v630 : BitVec 32 := Scalar.addi v10 c2560_i32_541
  ![0, v630.toNat]
def k0_dev25 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond23 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_549 : BitVec 32 := 0#32
  let v635 : BitVec 1 := Scalar.cmpi .eq v2 c0_i32_549
  let v636 : BitVec 32 := Scalar.extui v635
  let c0_i32_554 : BitVec 32 := 0#32
  let v637 : BitVec 1 := Scalar.cmpi .ne v636 c0_i32_554
  v637

def k0_off24 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c3072_i32_548 : BitVec 32 := 3072#32
  let v634 : BitVec 32 := Scalar.addi v10 c3072_i32_548
  ![0, v634.toNat]
def k0_dev26 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond24 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_556 : BitVec 32 := 1#32
  let v639 : BitVec 1 := Scalar.cmpi .eq v2 c1_i32_556
  let v640 : BitVec 32 := Scalar.extui v639
  let c0_i32_561 : BitVec 32 := 0#32
  let v641 : BitVec 1 := Scalar.cmpi .ne v640 c0_i32_561
  v641

def k0_off25 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c3584_i32_555 : BitVec 32 := 3584#32
  let v638 : BitVec 32 := Scalar.addi v10 c3584_i32_555
  ![0, v638.toNat]
def k0_dev27 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond25 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_563 : BitVec 32 := 0#32
  let v643 : BitVec 1 := Scalar.cmpi .eq v2 c0_i32_563
  let v644 : BitVec 32 := Scalar.extui v643
  let c0_i32_568 : BitVec 32 := 0#32
  let v645 : BitVec 1 := Scalar.cmpi .ne v644 c0_i32_568
  v645

def k0_off26 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c4096_i32_562 : BitVec 32 := 4096#32
  let v642 : BitVec 32 := Scalar.addi v10 c4096_i32_562
  ![0, v642.toNat]
def k0_dev28 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond26 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_570 : BitVec 32 := 1#32
  let v647 : BitVec 1 := Scalar.cmpi .eq v2 c1_i32_570
  let v648 : BitVec 32 := Scalar.extui v647
  let c0_i32_575 : BitVec 32 := 0#32
  let v649 : BitVec 1 := Scalar.cmpi .ne v648 c0_i32_575
  v649

def k0_off27 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c4608_i32_569 : BitVec 32 := 4608#32
  let v646 : BitVec 32 := Scalar.addi v10 c4608_i32_569
  ![0, v646.toNat]
def k0_dev29 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond27 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_577 : BitVec 32 := 0#32
  let v651 : BitVec 1 := Scalar.cmpi .eq v2 c0_i32_577
  let v652 : BitVec 32 := Scalar.extui v651
  let c0_i32_582 : BitVec 32 := 0#32
  let v653 : BitVec 1 := Scalar.cmpi .ne v652 c0_i32_582
  v653

def k0_off28 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c5120_i32_576 : BitVec 32 := 5120#32
  let v650 : BitVec 32 := Scalar.addi v10 c5120_i32_576
  ![0, v650.toNat]
def k0_dev30 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond28 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_584 : BitVec 32 := 1#32
  let v655 : BitVec 1 := Scalar.cmpi .eq v2 c1_i32_584
  let v656 : BitVec 32 := Scalar.extui v655
  let c0_i32_589 : BitVec 32 := 0#32
  let v657 : BitVec 1 := Scalar.cmpi .ne v656 c0_i32_589
  v657

def k0_off29 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c5632_i32_583 : BitVec 32 := 5632#32
  let v654 : BitVec 32 := Scalar.addi v10 c5632_i32_583
  ![0, v654.toNat]
def k0_dev31 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond29 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_591 : BitVec 32 := 0#32
  let v659 : BitVec 1 := Scalar.cmpi .eq v2 c0_i32_591
  let v660 : BitVec 32 := Scalar.extui v659
  let c0_i32_596 : BitVec 32 := 0#32
  let v661 : BitVec 1 := Scalar.cmpi .ne v660 c0_i32_596
  v661

def k0_off30 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c6144_i32_590 : BitVec 32 := 6144#32
  let v658 : BitVec 32 := Scalar.addi v10 c6144_i32_590
  ![0, v658.toNat]
def k0_dev32 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond30 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_598 : BitVec 32 := 1#32
  let v663 : BitVec 1 := Scalar.cmpi .eq v2 c1_i32_598
  let v664 : BitVec 32 := Scalar.extui v663
  let c0_i32_603 : BitVec 32 := 0#32
  let v665 : BitVec 1 := Scalar.cmpi .ne v664 c0_i32_603
  v665

def k0_off31 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c6656_i32_597 : BitVec 32 := 6656#32
  let v662 : BitVec 32 := Scalar.addi v10 c6656_i32_597
  ![0, v662.toNat]
def k0_dev33 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond31 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_605 : BitVec 32 := 0#32
  let v667 : BitVec 1 := Scalar.cmpi .eq v2 c0_i32_605
  let v668 : BitVec 32 := Scalar.extui v667
  let c0_i32_610 : BitVec 32 := 0#32
  let v669 : BitVec 1 := Scalar.cmpi .ne v668 c0_i32_610
  v669

def k0_off32 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c7168_i32_604 : BitVec 32 := 7168#32
  let v666 : BitVec 32 := Scalar.addi v10 c7168_i32_604
  ![0, v666.toNat]
def k0_dev34 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond32 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_612 : BitVec 32 := 1#32
  let v671 : BitVec 1 := Scalar.cmpi .eq v2 c1_i32_612
  let v672 : BitVec 32 := Scalar.extui v671
  let c0_i32_617 : BitVec 32 := 0#32
  let v673 : BitVec 1 := Scalar.cmpi .ne v672 c0_i32_617
  v673

def k0_off33 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c7680_i32_611 : BitVec 32 := 7680#32
  let v670 : BitVec 32 := Scalar.addi v10 c7680_i32_611
  ![0, v670.toNat]
def k0_dev35 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v1156 : BitVec 32 := Scalar.muli v6 c2_i32_936
  let v1157 : BitVec 32 := Scalar.addi c0_i32_937 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v1158 : BitVec 32 := Scalar.muli v5 c1_i32_938
  let v1159 : BitVec 32 := Scalar.addi v1157 v1158
  v1159.toNat
def k0_cond33 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_640 : BitVec 32 := 0#32
  let v714 : BitVec 1 := Scalar.cmpi .eq v2 c0_i32_640
  let v715 : BitVec 32 := Scalar.extui v714
  let c0_i32_643 : BitVec 32 := 0#32
  let v716 : BitVec 1 := Scalar.cmpi .ne v715 c0_i32_643
  v716

def k0_off34 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c0_i32_48 : BitVec 32 := 0#32
  let v63 : BitVec 32 := Scalar.addi v8 c0_i32_48
  ![0, v63.toNat]
def k0_cond34 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_647 : BitVec 32 := 1#32
  let v726 : BitVec 1 := Scalar.cmpi .eq v2 c1_i32_647
  let v727 : BitVec 32 := Scalar.extui v726
  let c0_i32_650 : BitVec 32 := 0#32
  let v728 : BitVec 1 := Scalar.cmpi .ne v727 c0_i32_650
  v728

def k0_off35 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c512_i32_80 : BitVec 32 := 512#32
  let v99 : BitVec 32 := Scalar.addi v8 c512_i32_80
  ![0, v99.toNat]
def k0_cond35 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_654 : BitVec 32 := 0#32
  let v738 : BitVec 1 := Scalar.cmpi .eq v2 c0_i32_654
  let v739 : BitVec 32 := Scalar.extui v738
  let c0_i32_657 : BitVec 32 := 0#32
  let v740 : BitVec 1 := Scalar.cmpi .ne v739 c0_i32_657
  v740

def k0_off36 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c1024_i32_111 : BitVec 32 := 1024#32
  let v135 : BitVec 32 := Scalar.addi v8 c1024_i32_111
  ![0, v135.toNat]
def k0_cond36 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_661 : BitVec 32 := 1#32
  let v750 : BitVec 1 := Scalar.cmpi .eq v2 c1_i32_661
  let v751 : BitVec 32 := Scalar.extui v750
  let c0_i32_664 : BitVec 32 := 0#32
  let v752 : BitVec 1 := Scalar.cmpi .ne v751 c0_i32_664
  v752

def k0_off37 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c1536_i32_142 : BitVec 32 := 1536#32
  let v171 : BitVec 32 := Scalar.addi v8 c1536_i32_142
  ![0, v171.toNat]
def k0_cond37 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_668 : BitVec 32 := 0#32
  let v762 : BitVec 1 := Scalar.cmpi .eq v2 c0_i32_668
  let v763 : BitVec 32 := Scalar.extui v762
  let c0_i32_671 : BitVec 32 := 0#32
  let v764 : BitVec 1 := Scalar.cmpi .ne v763 c0_i32_671
  v764

def k0_off38 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c2048_i32_172 : BitVec 32 := 2048#32
  let v207 : BitVec 32 := Scalar.addi v8 c2048_i32_172
  ![0, v207.toNat]
def k0_cond38 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_675 : BitVec 32 := 1#32
  let v774 : BitVec 1 := Scalar.cmpi .eq v2 c1_i32_675
  let v775 : BitVec 32 := Scalar.extui v774
  let c0_i32_678 : BitVec 32 := 0#32
  let v776 : BitVec 1 := Scalar.cmpi .ne v775 c0_i32_678
  v776

def k0_off39 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c2560_i32_202 : BitVec 32 := 2560#32
  let v243 : BitVec 32 := Scalar.addi v8 c2560_i32_202
  ![0, v243.toNat]
def k0_cond39 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_682 : BitVec 32 := 0#32
  let v786 : BitVec 1 := Scalar.cmpi .eq v2 c0_i32_682
  let v787 : BitVec 32 := Scalar.extui v786
  let c0_i32_685 : BitVec 32 := 0#32
  let v788 : BitVec 1 := Scalar.cmpi .ne v787 c0_i32_685
  v788

def k0_off40 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c3072_i32_232 : BitVec 32 := 3072#32
  let v279 : BitVec 32 := Scalar.addi v8 c3072_i32_232
  ![0, v279.toNat]
def k0_cond40 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_689 : BitVec 32 := 1#32
  let v798 : BitVec 1 := Scalar.cmpi .eq v2 c1_i32_689
  let v799 : BitVec 32 := Scalar.extui v798
  let c0_i32_692 : BitVec 32 := 0#32
  let v800 : BitVec 1 := Scalar.cmpi .ne v799 c0_i32_692
  v800

def k0_off41 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c3584_i32_262 : BitVec 32 := 3584#32
  let v315 : BitVec 32 := Scalar.addi v8 c3584_i32_262
  ![0, v315.toNat]
def k0_cond41 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_696 : BitVec 32 := 0#32
  let v810 : BitVec 1 := Scalar.cmpi .eq v2 c0_i32_696
  let v811 : BitVec 32 := Scalar.extui v810
  let c0_i32_699 : BitVec 32 := 0#32
  let v812 : BitVec 1 := Scalar.cmpi .ne v811 c0_i32_699
  v812

def k0_off42 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c4096_i32_292 : BitVec 32 := 4096#32
  let v351 : BitVec 32 := Scalar.addi v8 c4096_i32_292
  ![0, v351.toNat]
def k0_cond42 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_703 : BitVec 32 := 1#32
  let v822 : BitVec 1 := Scalar.cmpi .eq v2 c1_i32_703
  let v823 : BitVec 32 := Scalar.extui v822
  let c0_i32_706 : BitVec 32 := 0#32
  let v824 : BitVec 1 := Scalar.cmpi .ne v823 c0_i32_706
  v824

def k0_off43 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c4608_i32_322 : BitVec 32 := 4608#32
  let v387 : BitVec 32 := Scalar.addi v8 c4608_i32_322
  ![0, v387.toNat]
def k0_cond43 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_710 : BitVec 32 := 0#32
  let v834 : BitVec 1 := Scalar.cmpi .eq v2 c0_i32_710
  let v835 : BitVec 32 := Scalar.extui v834
  let c0_i32_713 : BitVec 32 := 0#32
  let v836 : BitVec 1 := Scalar.cmpi .ne v835 c0_i32_713
  v836

def k0_off44 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c5120_i32_352 : BitVec 32 := 5120#32
  let v423 : BitVec 32 := Scalar.addi v8 c5120_i32_352
  ![0, v423.toNat]
def k0_cond44 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_717 : BitVec 32 := 1#32
  let v846 : BitVec 1 := Scalar.cmpi .eq v2 c1_i32_717
  let v847 : BitVec 32 := Scalar.extui v846
  let c0_i32_720 : BitVec 32 := 0#32
  let v848 : BitVec 1 := Scalar.cmpi .ne v847 c0_i32_720
  v848

def k0_off45 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c5632_i32_382 : BitVec 32 := 5632#32
  let v459 : BitVec 32 := Scalar.addi v8 c5632_i32_382
  ![0, v459.toNat]
def k0_cond45 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_724 : BitVec 32 := 0#32
  let v858 : BitVec 1 := Scalar.cmpi .eq v2 c0_i32_724
  let v859 : BitVec 32 := Scalar.extui v858
  let c0_i32_727 : BitVec 32 := 0#32
  let v860 : BitVec 1 := Scalar.cmpi .ne v859 c0_i32_727
  v860

def k0_off46 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c6144_i32_412 : BitVec 32 := 6144#32
  let v495 : BitVec 32 := Scalar.addi v8 c6144_i32_412
  ![0, v495.toNat]
def k0_cond46 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_731 : BitVec 32 := 1#32
  let v870 : BitVec 1 := Scalar.cmpi .eq v2 c1_i32_731
  let v871 : BitVec 32 := Scalar.extui v870
  let c0_i32_734 : BitVec 32 := 0#32
  let v872 : BitVec 1 := Scalar.cmpi .ne v871 c0_i32_734
  v872

def k0_off47 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c6656_i32_442 : BitVec 32 := 6656#32
  let v531 : BitVec 32 := Scalar.addi v8 c6656_i32_442
  ![0, v531.toNat]
def k0_cond47 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_738 : BitVec 32 := 0#32
  let v882 : BitVec 1 := Scalar.cmpi .eq v2 c0_i32_738
  let v883 : BitVec 32 := Scalar.extui v882
  let c0_i32_741 : BitVec 32 := 0#32
  let v884 : BitVec 1 := Scalar.cmpi .ne v883 c0_i32_741
  v884

def k0_off48 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c7168_i32_472 : BitVec 32 := 7168#32
  let v567 : BitVec 32 := Scalar.addi v8 c7168_i32_472
  ![0, v567.toNat]
def k0_cond48 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_745 : BitVec 32 := 1#32
  let v894 : BitVec 1 := Scalar.cmpi .eq v2 c1_i32_745
  let v895 : BitVec 32 := Scalar.extui v894
  let c0_i32_748 : BitVec 32 := 0#32
  let v896 : BitVec 1 := Scalar.cmpi .ne v895 c0_i32_748
  v896

def k0_off49 (d0 : Dev nD) : Fin 2 → Nat :=
  let c0_i32_932 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let c7680_i32_497 : BitVec 32 := 7680#32
  let v598 : BitVec 32 := Scalar.addi v8 c7680_i32_497
  ![0, v598.toNat]
def k0_cond49 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_752 : BitVec 32 := 0#32
  let v906 : BitVec 1 := Scalar.cmpi .eq v2 c0_i32_752
  let v907 : BitVec 32 := Scalar.extui v906
  let c0_i32_755 : BitVec 32 := 0#32
  let v908 : BitVec 1 := Scalar.cmpi .ne v907 c0_i32_755
  v908

def k0_off50 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c0_i32_506 : BitVec 32 := 0#32
  let v610 : BitVec 32 := Scalar.addi v10 c0_i32_506
  ![0, v610.toNat]
def k0_cond50 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_756 : BitVec 32 := 0#32
  let v909 : BitVec 1 := Scalar.cmpi .ne v2 c0_i32_756
  let v910 : BitVec 32 := Scalar.extui v909
  let c0_i32_759 : BitVec 32 := 0#32
  let v911 : BitVec 1 := Scalar.cmpi .ne v910 c0_i32_759
  v911

def k0_off51 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c0_i32_506 : BitVec 32 := 0#32
  let v610 : BitVec 32 := Scalar.addi v10 c0_i32_506
  ![0, v610.toNat]
def k0_off52 (d0 : Dev nD) (c0_i32_760 : BitVec 32) : Fin 2 → Nat :=
  let c0_761 : Index := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let v912 : BitVec 32 := Scalar.addi v10 c0_i32_760
  let v913 : Index := Scalar.indexCast v912
  ![0, v913.toNat]
def k0_cond51 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_763 : BitVec 32 := 1#32
  let v921 : BitVec 1 := Scalar.cmpi .eq v2 c1_i32_763
  let v922 : BitVec 32 := Scalar.extui v921
  let c0_i32_766 : BitVec 32 := 0#32
  let v923 : BitVec 1 := Scalar.cmpi .ne v922 c0_i32_766
  v923

def k0_off53 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c512_i32_513 : BitVec 32 := 512#32
  let v614 : BitVec 32 := Scalar.addi v10 c512_i32_513
  ![0, v614.toNat]
def k0_cond52 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_767 : BitVec 32 := 1#32
  let v924 : BitVec 1 := Scalar.cmpi .ne v2 c1_i32_767
  let v925 : BitVec 32 := Scalar.extui v924
  let c0_i32_770 : BitVec 32 := 0#32
  let v926 : BitVec 1 := Scalar.cmpi .ne v925 c0_i32_770
  v926

def k0_off54 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c512_i32_513 : BitVec 32 := 512#32
  let v614 : BitVec 32 := Scalar.addi v10 c512_i32_513
  ![0, v614.toNat]
def k0_cond53 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_774 : BitVec 32 := 0#32
  let v936 : BitVec 1 := Scalar.cmpi .eq v2 c0_i32_774
  let v937 : BitVec 32 := Scalar.extui v936
  let c0_i32_777 : BitVec 32 := 0#32
  let v938 : BitVec 1 := Scalar.cmpi .ne v937 c0_i32_777
  v938

def k0_off55 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c1024_i32_520 : BitVec 32 := 1024#32
  let v618 : BitVec 32 := Scalar.addi v10 c1024_i32_520
  ![0, v618.toNat]
def k0_cond54 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_778 : BitVec 32 := 0#32
  let v939 : BitVec 1 := Scalar.cmpi .ne v2 c0_i32_778
  let v940 : BitVec 32 := Scalar.extui v939
  let c0_i32_781 : BitVec 32 := 0#32
  let v941 : BitVec 1 := Scalar.cmpi .ne v940 c0_i32_781
  v941

def k0_off56 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c1024_i32_520 : BitVec 32 := 1024#32
  let v618 : BitVec 32 := Scalar.addi v10 c1024_i32_520
  ![0, v618.toNat]
def k0_cond55 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_785 : BitVec 32 := 1#32
  let v951 : BitVec 1 := Scalar.cmpi .eq v2 c1_i32_785
  let v952 : BitVec 32 := Scalar.extui v951
  let c0_i32_788 : BitVec 32 := 0#32
  let v953 : BitVec 1 := Scalar.cmpi .ne v952 c0_i32_788
  v953

def k0_off57 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c1536_i32_527 : BitVec 32 := 1536#32
  let v622 : BitVec 32 := Scalar.addi v10 c1536_i32_527
  ![0, v622.toNat]
def k0_cond56 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_789 : BitVec 32 := 1#32
  let v954 : BitVec 1 := Scalar.cmpi .ne v2 c1_i32_789
  let v955 : BitVec 32 := Scalar.extui v954
  let c0_i32_792 : BitVec 32 := 0#32
  let v956 : BitVec 1 := Scalar.cmpi .ne v955 c0_i32_792
  v956

def k0_off58 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c1536_i32_527 : BitVec 32 := 1536#32
  let v622 : BitVec 32 := Scalar.addi v10 c1536_i32_527
  ![0, v622.toNat]
def k0_cond57 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_796 : BitVec 32 := 0#32
  let v966 : BitVec 1 := Scalar.cmpi .eq v2 c0_i32_796
  let v967 : BitVec 32 := Scalar.extui v966
  let c0_i32_799 : BitVec 32 := 0#32
  let v968 : BitVec 1 := Scalar.cmpi .ne v967 c0_i32_799
  v968

def k0_off59 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c2048_i32_534 : BitVec 32 := 2048#32
  let v626 : BitVec 32 := Scalar.addi v10 c2048_i32_534
  ![0, v626.toNat]
def k0_cond58 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_800 : BitVec 32 := 0#32
  let v969 : BitVec 1 := Scalar.cmpi .ne v2 c0_i32_800
  let v970 : BitVec 32 := Scalar.extui v969
  let c0_i32_803 : BitVec 32 := 0#32
  let v971 : BitVec 1 := Scalar.cmpi .ne v970 c0_i32_803
  v971

def k0_off60 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c2048_i32_534 : BitVec 32 := 2048#32
  let v626 : BitVec 32 := Scalar.addi v10 c2048_i32_534
  ![0, v626.toNat]
def k0_cond59 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_807 : BitVec 32 := 1#32
  let v981 : BitVec 1 := Scalar.cmpi .eq v2 c1_i32_807
  let v982 : BitVec 32 := Scalar.extui v981
  let c0_i32_810 : BitVec 32 := 0#32
  let v983 : BitVec 1 := Scalar.cmpi .ne v982 c0_i32_810
  v983

def k0_off61 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c2560_i32_541 : BitVec 32 := 2560#32
  let v630 : BitVec 32 := Scalar.addi v10 c2560_i32_541
  ![0, v630.toNat]
def k0_cond60 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_811 : BitVec 32 := 1#32
  let v984 : BitVec 1 := Scalar.cmpi .ne v2 c1_i32_811
  let v985 : BitVec 32 := Scalar.extui v984
  let c0_i32_814 : BitVec 32 := 0#32
  let v986 : BitVec 1 := Scalar.cmpi .ne v985 c0_i32_814
  v986

def k0_off62 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c2560_i32_541 : BitVec 32 := 2560#32
  let v630 : BitVec 32 := Scalar.addi v10 c2560_i32_541
  ![0, v630.toNat]
def k0_cond61 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_818 : BitVec 32 := 0#32
  let v996 : BitVec 1 := Scalar.cmpi .eq v2 c0_i32_818
  let v997 : BitVec 32 := Scalar.extui v996
  let c0_i32_821 : BitVec 32 := 0#32
  let v998 : BitVec 1 := Scalar.cmpi .ne v997 c0_i32_821
  v998

def k0_off63 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c3072_i32_548 : BitVec 32 := 3072#32
  let v634 : BitVec 32 := Scalar.addi v10 c3072_i32_548
  ![0, v634.toNat]
def k0_cond62 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_822 : BitVec 32 := 0#32
  let v999 : BitVec 1 := Scalar.cmpi .ne v2 c0_i32_822
  let v1000 : BitVec 32 := Scalar.extui v999
  let c0_i32_825 : BitVec 32 := 0#32
  let v1001 : BitVec 1 := Scalar.cmpi .ne v1000 c0_i32_825
  v1001

def k0_off64 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c3072_i32_548 : BitVec 32 := 3072#32
  let v634 : BitVec 32 := Scalar.addi v10 c3072_i32_548
  ![0, v634.toNat]
def k0_cond63 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_829 : BitVec 32 := 1#32
  let v1011 : BitVec 1 := Scalar.cmpi .eq v2 c1_i32_829
  let v1012 : BitVec 32 := Scalar.extui v1011
  let c0_i32_832 : BitVec 32 := 0#32
  let v1013 : BitVec 1 := Scalar.cmpi .ne v1012 c0_i32_832
  v1013

def k0_off65 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c3584_i32_555 : BitVec 32 := 3584#32
  let v638 : BitVec 32 := Scalar.addi v10 c3584_i32_555
  ![0, v638.toNat]
def k0_cond64 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_833 : BitVec 32 := 1#32
  let v1014 : BitVec 1 := Scalar.cmpi .ne v2 c1_i32_833
  let v1015 : BitVec 32 := Scalar.extui v1014
  let c0_i32_836 : BitVec 32 := 0#32
  let v1016 : BitVec 1 := Scalar.cmpi .ne v1015 c0_i32_836
  v1016

def k0_off66 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c3584_i32_555 : BitVec 32 := 3584#32
  let v638 : BitVec 32 := Scalar.addi v10 c3584_i32_555
  ![0, v638.toNat]
def k0_cond65 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_840 : BitVec 32 := 0#32
  let v1026 : BitVec 1 := Scalar.cmpi .eq v2 c0_i32_840
  let v1027 : BitVec 32 := Scalar.extui v1026
  let c0_i32_843 : BitVec 32 := 0#32
  let v1028 : BitVec 1 := Scalar.cmpi .ne v1027 c0_i32_843
  v1028

def k0_off67 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c4096_i32_562 : BitVec 32 := 4096#32
  let v642 : BitVec 32 := Scalar.addi v10 c4096_i32_562
  ![0, v642.toNat]
def k0_cond66 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_844 : BitVec 32 := 0#32
  let v1029 : BitVec 1 := Scalar.cmpi .ne v2 c0_i32_844
  let v1030 : BitVec 32 := Scalar.extui v1029
  let c0_i32_847 : BitVec 32 := 0#32
  let v1031 : BitVec 1 := Scalar.cmpi .ne v1030 c0_i32_847
  v1031

def k0_off68 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c4096_i32_562 : BitVec 32 := 4096#32
  let v642 : BitVec 32 := Scalar.addi v10 c4096_i32_562
  ![0, v642.toNat]
def k0_cond67 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_851 : BitVec 32 := 1#32
  let v1041 : BitVec 1 := Scalar.cmpi .eq v2 c1_i32_851
  let v1042 : BitVec 32 := Scalar.extui v1041
  let c0_i32_854 : BitVec 32 := 0#32
  let v1043 : BitVec 1 := Scalar.cmpi .ne v1042 c0_i32_854
  v1043

def k0_off69 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c4608_i32_569 : BitVec 32 := 4608#32
  let v646 : BitVec 32 := Scalar.addi v10 c4608_i32_569
  ![0, v646.toNat]
def k0_cond68 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_855 : BitVec 32 := 1#32
  let v1044 : BitVec 1 := Scalar.cmpi .ne v2 c1_i32_855
  let v1045 : BitVec 32 := Scalar.extui v1044
  let c0_i32_858 : BitVec 32 := 0#32
  let v1046 : BitVec 1 := Scalar.cmpi .ne v1045 c0_i32_858
  v1046

def k0_off70 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c4608_i32_569 : BitVec 32 := 4608#32
  let v646 : BitVec 32 := Scalar.addi v10 c4608_i32_569
  ![0, v646.toNat]
def k0_cond69 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_862 : BitVec 32 := 0#32
  let v1056 : BitVec 1 := Scalar.cmpi .eq v2 c0_i32_862
  let v1057 : BitVec 32 := Scalar.extui v1056
  let c0_i32_865 : BitVec 32 := 0#32
  let v1058 : BitVec 1 := Scalar.cmpi .ne v1057 c0_i32_865
  v1058

def k0_off71 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c5120_i32_576 : BitVec 32 := 5120#32
  let v650 : BitVec 32 := Scalar.addi v10 c5120_i32_576
  ![0, v650.toNat]
def k0_cond70 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_866 : BitVec 32 := 0#32
  let v1059 : BitVec 1 := Scalar.cmpi .ne v2 c0_i32_866
  let v1060 : BitVec 32 := Scalar.extui v1059
  let c0_i32_869 : BitVec 32 := 0#32
  let v1061 : BitVec 1 := Scalar.cmpi .ne v1060 c0_i32_869
  v1061

def k0_off72 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c5120_i32_576 : BitVec 32 := 5120#32
  let v650 : BitVec 32 := Scalar.addi v10 c5120_i32_576
  ![0, v650.toNat]
def k0_cond71 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_873 : BitVec 32 := 1#32
  let v1071 : BitVec 1 := Scalar.cmpi .eq v2 c1_i32_873
  let v1072 : BitVec 32 := Scalar.extui v1071
  let c0_i32_876 : BitVec 32 := 0#32
  let v1073 : BitVec 1 := Scalar.cmpi .ne v1072 c0_i32_876
  v1073

def k0_off73 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c5632_i32_583 : BitVec 32 := 5632#32
  let v654 : BitVec 32 := Scalar.addi v10 c5632_i32_583
  ![0, v654.toNat]
def k0_cond72 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_877 : BitVec 32 := 1#32
  let v1074 : BitVec 1 := Scalar.cmpi .ne v2 c1_i32_877
  let v1075 : BitVec 32 := Scalar.extui v1074
  let c0_i32_880 : BitVec 32 := 0#32
  let v1076 : BitVec 1 := Scalar.cmpi .ne v1075 c0_i32_880
  v1076

def k0_off74 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c5632_i32_583 : BitVec 32 := 5632#32
  let v654 : BitVec 32 := Scalar.addi v10 c5632_i32_583
  ![0, v654.toNat]
def k0_cond73 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_884 : BitVec 32 := 0#32
  let v1086 : BitVec 1 := Scalar.cmpi .eq v2 c0_i32_884
  let v1087 : BitVec 32 := Scalar.extui v1086
  let c0_i32_887 : BitVec 32 := 0#32
  let v1088 : BitVec 1 := Scalar.cmpi .ne v1087 c0_i32_887
  v1088

def k0_off75 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c6144_i32_590 : BitVec 32 := 6144#32
  let v658 : BitVec 32 := Scalar.addi v10 c6144_i32_590
  ![0, v658.toNat]
def k0_cond74 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_888 : BitVec 32 := 0#32
  let v1089 : BitVec 1 := Scalar.cmpi .ne v2 c0_i32_888
  let v1090 : BitVec 32 := Scalar.extui v1089
  let c0_i32_891 : BitVec 32 := 0#32
  let v1091 : BitVec 1 := Scalar.cmpi .ne v1090 c0_i32_891
  v1091

def k0_off76 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c6144_i32_590 : BitVec 32 := 6144#32
  let v658 : BitVec 32 := Scalar.addi v10 c6144_i32_590
  ![0, v658.toNat]
def k0_cond75 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_895 : BitVec 32 := 1#32
  let v1101 : BitVec 1 := Scalar.cmpi .eq v2 c1_i32_895
  let v1102 : BitVec 32 := Scalar.extui v1101
  let c0_i32_898 : BitVec 32 := 0#32
  let v1103 : BitVec 1 := Scalar.cmpi .ne v1102 c0_i32_898
  v1103

def k0_off77 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c6656_i32_597 : BitVec 32 := 6656#32
  let v662 : BitVec 32 := Scalar.addi v10 c6656_i32_597
  ![0, v662.toNat]
def k0_cond76 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_899 : BitVec 32 := 1#32
  let v1104 : BitVec 1 := Scalar.cmpi .ne v2 c1_i32_899
  let v1105 : BitVec 32 := Scalar.extui v1104
  let c0_i32_902 : BitVec 32 := 0#32
  let v1106 : BitVec 1 := Scalar.cmpi .ne v1105 c0_i32_902
  v1106

def k0_off78 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c6656_i32_597 : BitVec 32 := 6656#32
  let v662 : BitVec 32 := Scalar.addi v10 c6656_i32_597
  ![0, v662.toNat]
def k0_cond77 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_906 : BitVec 32 := 0#32
  let v1116 : BitVec 1 := Scalar.cmpi .eq v2 c0_i32_906
  let v1117 : BitVec 32 := Scalar.extui v1116
  let c0_i32_909 : BitVec 32 := 0#32
  let v1118 : BitVec 1 := Scalar.cmpi .ne v1117 c0_i32_909
  v1118

def k0_off79 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c7168_i32_604 : BitVec 32 := 7168#32
  let v666 : BitVec 32 := Scalar.addi v10 c7168_i32_604
  ![0, v666.toNat]
def k0_cond78 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_910 : BitVec 32 := 0#32
  let v1119 : BitVec 1 := Scalar.cmpi .ne v2 c0_i32_910
  let v1120 : BitVec 32 := Scalar.extui v1119
  let c0_i32_913 : BitVec 32 := 0#32
  let v1121 : BitVec 1 := Scalar.cmpi .ne v1120 c0_i32_913
  v1121

def k0_off80 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c7168_i32_604 : BitVec 32 := 7168#32
  let v666 : BitVec 32 := Scalar.addi v10 c7168_i32_604
  ![0, v666.toNat]
def k0_cond79 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_917 : BitVec 32 := 1#32
  let v1131 : BitVec 1 := Scalar.cmpi .eq v2 c1_i32_917
  let v1132 : BitVec 32 := Scalar.extui v1131
  let c0_i32_920 : BitVec 32 := 0#32
  let v1133 : BitVec 1 := Scalar.cmpi .ne v1132 c0_i32_920
  v1133

def k0_off81 (d0 : Dev nD) : Fin 2 → Nat :=
  let c0_i32_932 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c7680_i32_611 : BitVec 32 := 7680#32
  let v670 : BitVec 32 := Scalar.addi v10 c7680_i32_611
  ![0, v670.toNat]
def k0_cond80 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_921 : BitVec 32 := 1#32
  let v1134 : BitVec 1 := Scalar.cmpi .ne v2 c1_i32_921
  let v1135 : BitVec 32 := Scalar.extui v1134
  let c0_i32_924 : BitVec 32 := 0#32
  let v1136 : BitVec 1 := Scalar.cmpi .ne v1135 c0_i32_924
  v1136

def k0_off82 (d0 : Dev nD) : Fin 2 → Nat :=
  let c0_i32_934 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c8192_i32_5 : BitVec 32 := 8192#32
  let v10 : BitVec 32 := Scalar.muli v9 c8192_i32_5
  let c7680_i32_611 : BitVec 32 := 7680#32
  let v670 : BitVec 32 := Scalar.addi v10 c7680_i32_611
  ![0, v670.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | .hbm, ⟨14, _⟩ => ⟨S512x16384, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Steps.lean ====
/- The kernel's body, told as loops. The printed body lists the sixteen chunks one after another; here each of its
   five phases is one step at a symbolic chunk `k`, run sixteen times, and `body_eq` says that the printed body is
   that program on each of the four devices.

   The protocol (device `c` at mesh place `(x, y)`, `xn c` and `yn c` its neighbours along `x` and `y`; a chunk is
   512 columns of the result, the first sixteen of a device's own column half, the other sixteen of the other half):

   * barrier: `c` signals `xn c` and `yn c` one unit each and waits for two before it sends anything. The unit that
     `c` pays to `yn c` hands over the chunks of `c` that `yn c` will write (the other half, `k % 2 = x`) and the
     buffer for its statistics; the unit paid to `xn c` hands over the chunks that `xn c` will forward into
     (the other half, `k % 2 ≠ x`).
   * `w`: the two slots of the weight buffer, eight local copies each; each landing hands over the slot with the
     weight columns of its block, and the share of the weights that was read.
   * `sy k` / `ry k` (`k % 2 = x`): chunk `k` of the own half goes to the same columns on `yn c`. The send cell gives
     the chunk back; the receive cell on `yn c` hands over the chunk with the exponentials of `c`.
   * `st`: the statistics go to `yn c`'s second statistics buffer, lending half a share of the source.
   * `f k` / `fr k` (`k % 2 = x`): the chunk received through `ry k` goes on to `xn c`. The send cell gives it back;
     the receive cell on `xn c` hands over the chunk with the same contents. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Softmax

open Cert.KernelIdeal Cert.KernelIdeal.Gen
open Idealize.ShloMosaic Idealize.ShloMosaic.TcCoe Idealize.SL.Sem

variable {F : FTy → Type} [FloatOps F]

/-! ## The buffers -/

abbrev xM : Memref sig .tc .vmem S512x1024 .f32 := Memref.whole cc0_stg0_0
abbrev wM : Memref sig .tc .hbm S1024x8192 .f32 := Memref.whole main_arg1
abbrev oM : Memref sig .tc .vmem S512x16384 .bf16 := Memref.whole cc0_stg1_0
abbrev xbM : Memref sig .tc .vmem S512x1024 .bf16 := Memref.whole cc0_scratch0
abbrev wbM : Memref sig .tc .vmem S2x1024x512 .f32 := Memref.whole cc0_scratch1
abbrev msM : Memref sig .tc .vmem S2x512x16 .f32 := Memref.whole cc0_scratch2
abbrev psM : Memref sig .tc .vmem S2x512x16 .f32 := Memref.whole cc0_scratch3
theorem oW : (oM).IsWhole := Memref.isWhole_whole _
theorem xbW : (xbM).IsWhole := Memref.isWhole_whole _
theorem msW : (msM).IsWhole := Memref.isWhole_whole _
theorem psW : (psM).IsWhole := Memref.isWhole_whole _

/-! ## The semaphores -/

theorem inb16 (k : Fin 16) : ∀ a, (![k.val] : Fin 1 → Nat) a + S1.size a ≤ S16.size a := by revert k; decide
theorem inb2 (k : Fin 2) : ∀ a, (![k.val] : Fin 1 → Nat) a + S1.size a ≤ S2.size a := by revert k; decide

/-- The `k`-th of sixteen semaphores, as the kernel names it. -/
def sem16 (s : DmaSems sig S16) (k : Fin 16) : DmaSem sig :=
  ((s.slice (Rect.unit (s := S16) ![k.val] S1.size (inb16 k))).squeeze S_ squeezes_S1_S_).sem
def sem2 (s : DmaSems sig S2) (k : Fin 2) : DmaSem sig :=
  ((s.slice (Rect.unit (s := S2) ![k.val] S1.size (inb2 k))).squeeze S_ squeezes_S1_S_).sem

abbrev barS : Sem sig := (SemArray.scalar (sig.barrier 0 rfl) : Sems sig S_).sem
abbrev wS (s : Fin 2) : DmaSem sig := sem2 cc0_scratch4 s
abbrev syS (k : Fin 16) : DmaSem sig := sem16 cc0_scratch5 k
abbrev fS (k : Fin 16) : DmaSem sig := sem16 cc0_scratch6 k
abbrev ryS (k : Fin 16) : DmaSem sig := sem16 cc0_scratch7 k
abbrev frS (k : Fin 16) : DmaSem sig := sem16 cc0_scratch8 k
abbrev stS (s : Fin 2) : DmaSem sig := sem2 cc0_scratch9 s

/-! ## Places and conditions -/

/-- The device's place along `x`, as the kernel computes it. -/
def px (d : Dev nD) : BitVec 32 := Scalar.remsi (Scalar.divsi (Dev.word d) 2#32) 2#32
def condE (d : Dev nD) (k : Fin 16) : BitVec 1 :=
  Scalar.cmpi .ne (Scalar.extui (Scalar.cmpi .eq (px d) (BitVec.ofNat 32 (k.val % 2)) : BitVec 1) : BitVec 32) 0#32
def condN (d : Dev nD) (k : Fin 16) : BitVec 1 :=
  Scalar.cmpi .ne (Scalar.extui (Scalar.cmpi .ne (px d) (BitVec.ofNat 32 (k.val % 2)) : BitVec 1) : BitVec 32) 0#32

/-- The chunk `k` of the own column half (`offM`) and of the other one (`offO`): where they begin. -/
abbrev offM (d : Dev nD) (k : Fin 16) : Fin 2 → Nat := k0_off1 d (BitVec.ofNat 32 (512 * k.val))
abbrev offO (d : Dev nD) (k : Fin 16) : Fin 2 → Nat := k0_off52 d (BitVec.ofNat 32 (512 * k.val))

theorem offM_words : ∀ (d : Dev nD) (k : Fin 16), (Rect.unit (s := S512x16384) (offM d k) S512x512.size (k0_off1_inb d k)).WholeWords (EltTy.packing .bf16) := by decide +kernel
theorem offO_words : ∀ (d : Dev nD) (k : Fin 16), (Rect.unit (s := S512x16384) (offO d k) S512x512.size (k0_off52_inb d k)).WholeWords (EltTy.packing .bf16) := by decide +kernel

abbrev rM (d : Dev nD) (k : Fin 16) : Rect S512x16384 := Rect.unit (s := S512x16384) (offM d k) S512x512.size (k0_off1_inb d k)
abbrev rO (d : Dev nD) (k : Fin 16) : Rect S512x16384 := Rect.unit (s := S512x16384) (offO d k) S512x512.size (k0_off52_inb d k)
abbrev chM (d : Dev nD) (k : Fin 16) : Memref sig .tc .vmem S512x512 .bf16 := oM.slice (rM d k) (fun _ => rfl)
abbrev chO (d : Dev nD) (k : Fin 16) : Memref sig .tc .vmem S512x512 .bf16 := oM.slice (rO d k) (fun _ => rfl)

/-- The neighbours along `x` and `y`. -/
def xnD (d : Dev nD) : Dev nD := ⟨k0_dev1 d, k0_dev1_lt d⟩
def ynD (d : Dev nD) : Dev nD := ⟨k0_dev2 d, k0_dev2_lt d⟩

/-! ## The weight slots and the blocks of the weights -/

theorem inbW (k : Fin 16) : ∀ a, (![0, 512 * k.val] : Fin 2 → Nat) a + S1024x512.size a ≤ S1024x8192.size a := by revert k; decide
theorem inbSlot (s : Fin 2) : ∀ a, (![s.val, 0, 0] : Fin 3 → Nat) a + S1x1024x512.size a ≤ S2x1024x512.size a := by revert s; decide
theorem inbStat (s : Fin 2) (k : Fin 16) : ∀ a, (![s.val, 0, k.val] : Fin 3 → Nat) a + S1x512x1.size a ≤ S2x512x16.size a := by revert s k; decide
theorem inbStats (s : Fin 2) : ∀ a, (![s.val, 0, 0] : Fin 3 → Nat) a + S1x512x16.size a ≤ S2x512x16.size a := by revert s; decide
theorem slices16 (k : Fin 16) : S512x16.Slices ![0, k.val] S512x1 := by revert k; decide

abbrev rSlot (s : Fin 2) : Rect S2x1024x512 := Rect.unit (s := S2x1024x512) ![s.val, 0, 0] S1x1024x512.size (inbSlot s)
abbrev slotM (s : Fin 2) : Memref sig .tc .vmem S1024x512 .f32 := (wbM.slice (rSlot s) (fun _ => rfl)).squeeze S1024x512 squeezes_S1x1024x512_S1024x512
abbrev wBlk (k : Fin 16) : Memref sig .tc .hbm S1024x512 .f32 := wM.slice (Rect.unit (s := S1024x8192) ![0, 512 * k.val] S1024x512.size (inbW k)) (fun _ => rfl)
abbrev rStat (s : Fin 2) (k : Fin 16) : Rect S2x512x16 := Rect.unit (s := S2x512x16) ![s.val, 0, k.val] S1x512x1.size (inbStat s k)
abbrev rStats (s : Fin 2) : Rect S2x512x16 := Rect.unit (s := S2x512x16) ![s.val, 0, 0] S1x512x16.size (inbStats s)
abbrev rX : Rect S512x1024 := Rect.unit (s := S512x1024) ![0, 0] S512x1024.size inb_S512x1024_S512x1024_0_0

/-- The slot of block `k`. -/
abbrev slotOf (k : Fin 16) : Fin 2 := ⟨k.val % 2, Nat.mod_lt _ (by decide)⟩

/-! ## What a step computes -/

/-- The two factors from the statistics: the own columns' and the other's. -/
def facM (a b p q : Vec F S1x512x16 .f32) : FVec F S512x16 .bf16 :=
  k0_pay115 (k0_pay106 a) (k0_pay107 b) (k0_pay108 p) (k0_pay109 q) (k0_pay110 a p) (k0_pay111 a p)
def facO (a b p q : Vec F S1x512x16 .f32) : FVec F S512x16 .bf16 :=
  k0_pay116 (k0_pay106 a) (k0_pay107 b) (k0_pay108 p) (k0_pay109 q) (k0_pay110 a p) (k0_pay111 a p)
/-- A chunk times column `k` of the factors. -/
def scaled (fac : FVec F S512x16 .bf16) (k : Fin 16) (v : Vec F S512x512 .bf16) : FVec F S512x512 .bf16 :=
  mulf (shapeCast S512x512 v shapeCasts_S512x512_S512x512)
    (broadcastTo S512x512 (extractStridedSlice S512x1 ![0, k.val] fac (slices16 k)) broadcasts_S512x1_S512x512)

/-! ## The steps -/

abbrev PT : Type 1 := Prog (TpuEff nD τ sig (Elt F) Λ₀ .tc) PUnit

/-- Start the copy of block `k` of the weights into its slot. -/
def startW (k : Fin 16) : PT (F := F) :=
  Prog.lift (.enqueueDma (wBlk k) (.here (slotM (slotOf k))) (.dma (wS (slotOf k))) (View.wordExact_bits rfl) ((View.wordExact_bits rfl).reshape _ _) ⟨Or.inl rfl, trivial⟩)
def waitW (k : Fin 16) : PT (F := F) :=
  Prog.lift (.waitDma2 (wS (slotOf k)) (wBlk k) (slotM (slotOf k)) (View.wordExact_bits rfl) ((View.wordExact_bits rfl).reshape _ _))
/-- Send chunk `k` of the own half to the neighbour along `y`, on the devices of parity `k`. -/
def sendY (d : Dev nD) (k : Fin 16) : PT (F := F) :=
  if h : condE d k = 1#1 then do
    Prog.lift (.enqueueDma (chM d k) (.remote (Dev.tc (ynD d)) (chM d k) (.dma (syS k))) (.dma (ryS k)) (oW.wordExact_slice rfl _ (offM_words d k)) (oW.wordExact_slice rfl _ (offM_words d k)) ⟨⟨rfl, Or.inl rfl⟩, trivial⟩)
  else pure ⟨⟩

/-- Start the next copy. -/
def startNext (k : Fin 16) : PT (F := F) := if h : k.val + 1 < 16 then startW ⟨k.val + 1, h⟩ else pure ⟨⟩
/-- Before the first send: both neighbours are there. -/
def barWait (k : Fin 16) : PT (F := F) :=
  match k.val with
  | 0 => semWaitWord barS 2#32
  | _ + 1 => pure ⟨⟩
/-- The exponentials of a block and their statistics. -/
def compA (d : Dev nD) (k : Fin 16) : PT (F := F) := do
  let w : Vec F S1x1024x512 .f32 ← Prog.lift (.load wbM (rSlot (slotOf k)).toLoadRect (View.loadsAt_vmem h_S1x1024x512))
  let x : Vec F S512x1024 .bf16 ← Prog.lift (.load xbM rX.toLoadRect (View.loadsAt_vmem h_S512x1024))
  let _a : Vec F S1x512x1 .f32 ← Prog.lift (.load msM (rStat 0 k).toLoadRect (View.loadsAt_vmem h_S1x512x1))
  Prog.lift (.store msM (rStat 0 k) (k0_pay6 w x) Finset.univ (View.stores_vmem_bits_univ h_S1x512x1 rfl) (.inl rfl))
  let _b : Vec F S1x512x1 .f32 ← Prog.lift (.load msM (rStat 1 k).toLoadRect (View.loadsAt_vmem h_S1x512x1))
  Prog.lift (.store msM (rStat 1 k) (k0_pay7 w x) Finset.univ (View.stores_vmem_bits_univ h_S1x512x1 rfl) (.inl rfl))
  let _c : Vec F S512x512 .bf16 ← Prog.lift (.load oM (rM d k).toLoadRect (View.loadsAt_vmem h_S512x512))
  Prog.lift (.store oM (rM d k) (k0_pay8 (k0_pay5 w x)) Finset.univ (View.stores_vmem h_S512x512 (oW.storeExact_slice rfl _ (k0_off1_packedbf16 d k)) (fun _ => rfl)) (.inl rfl))

/-- One block: start the next copy, wait for this one, the exponentials and their statistics, and the send. -/
def stepA (d : Dev nD) (k : Fin 16) : PT (F := F) := do
  startNext k
  waitW k
  compA d k
  barWait k
  sendY d k

/-- Chunk `k` of the other half: on the devices of parity `k` wait for it and send it on along `x`. -/
def stepB (d : Dev nD) (k : Fin 16) : PT (F := F) :=
  if h : condE d k = 1#1 then do
    Prog.lift (.waitDma2 (ryS k) (chO d k) (chO d k) (oW.wordExact_slice rfl _ (offO_words d k)) (oW.wordExact_slice rfl _ (offO_words d k)))
    Prog.lift (.enqueueDma (chO d k) (.remote (Dev.tc (xnD d)) (chO d k) (.dma (fS k))) (.dma (frS k)) (oW.wordExact_slice rfl _ (offO_words d k)) (oW.wordExact_slice rfl _ (offO_words d k)) ⟨⟨rfl, Or.inl rfl⟩, trivial⟩)
  else pure ⟨⟩

/-- The waits for the own sends and for the chunks that come along `x`. -/
def waitSy (d : Dev nD) (k : Fin 16) : PT (F := F) :=
  if h : condE d k = 1#1 then
    Prog.lift (.waitDma2 (syS k) (chM d k) (chM d k) (oW.wordExact_slice rfl _ (offM_words d k)) (oW.wordExact_slice rfl _ (offM_words d k)))
  else pure ⟨⟩
def waitF (d : Dev nD) (k : Fin 16) : PT (F := F) :=
  if h : condE d k = 1#1 then
    Prog.lift (.waitDma2 (fS k) (chO d k) (chO d k) (oW.wordExact_slice rfl _ (offO_words d k)) (oW.wordExact_slice rfl _ (offO_words d k)))
  else pure ⟨⟩
def waitFr (d : Dev nD) (k : Fin 16) : PT (F := F) :=
  if h : condN d k = 1#1 then
    Prog.lift (.waitDma2 (frS k) (chO d k) (chO d k) (oW.wordExact_slice rfl _ (offO_words d k)) (oW.wordExact_slice rfl _ (offO_words d k)))
  else pure ⟨⟩

/-- Scale a chunk of the own half, and one of the other. -/
def compC (d : Dev nD) (fac : FVec F S512x16 .bf16) (k : Fin 16) : PT (F := F) := do
  let v : Vec F S512x512 .bf16 ← Prog.lift (.load oM (rM d k).toLoadRect (View.loadsAt_vmem h_S512x512))
  let _v : Vec F S512x512 .bf16 ← Prog.lift (.load oM (rM d k).toLoadRect (View.loadsAt_vmem h_S512x512))
  Prog.lift (.store oM (rM d k) (scaled fac k v) Finset.univ (View.stores_vmem h_S512x512 (oW.storeExact_slice rfl _ (k0_off1_packedbf16 d k)) (fun _ => rfl)) (.inl rfl))
def compD (d : Dev nD) (fac : FVec F S512x16 .bf16) (k : Fin 16) : PT (F := F) := do
  let v : Vec F S512x512 .bf16 ← Prog.lift (.load oM (rO d k).toLoadRect (View.loadsAt_vmem h_S512x512))
  let _v : Vec F S512x512 .bf16 ← Prog.lift (.load oM (rO d k).toLoadRect (View.loadsAt_vmem h_S512x512))
  Prog.lift (.store oM (rO d k) (scaled fac k v) Finset.univ (View.stores_vmem h_S512x512 (oW.storeExact_slice rfl _ (k0_off52_packedbf16 d k)) (fun _ => rfl)) (.inl rfl))

/-- Chunk `k` of the own half: the send is over; scale it. -/
def stepC (d : Dev nD) (fac : FVec F S512x16 .bf16) (k : Fin 16) : PT (F := F) := do
  waitSy d k
  compC d fac k
/-- Chunk `k` of the other half: sent on, or received; scale it. -/
def stepD (d : Dev nD) (fac : FVec F S512x16 .bf16) (k : Fin 16) : PT (F := F) := do
  waitF d k
  waitFr d k
  compD d fac k

/-- A step run for the last `n` of the sixteen chunks. -/
def loop (f : Fin 16 → PT (F := F)) : (n : ℕ) → n ≤ 16 → PT (F := F)
  | 0, _ => pure ⟨⟩
  | n + 1, h => do
    f ⟨16 - (n + 1), Nat.sub_lt (by decide) (Nat.succ_pos n)⟩
    loop f n (Nat.le_of_succ_le h)

/-- The two signals, and `x` rounded. -/
def prologue (d : Dev nD) : PT (F := F) := do
  semSignalWord (xnD d) barS 1#32
  semSignalWord (ynD d) barS 1#32
  let x : Vec F S512x1024 .f32 ← Prog.lift (.load xM rX.toLoadRect (View.loadsAt_vmem h_S512x1024))
  let _x : Vec F S512x1024 .bf16 ← Prog.lift (.load xbM rX.toLoadRect (View.loadsAt_vmem h_S512x1024))
  Prog.lift (.store xbM rX (k0_pay2 x) Finset.univ (View.stores_vmem h_S512x1024 (xbW.storeExact_slice rfl _ packedbf16_S512x1024_S512x1024_0_0) (fun _ => rfl)) (.inl rfl))

/-- The send of the statistics. -/
def sendSt (d : Dev nD) : PT (F := F) :=
  Prog.lift (.enqueueDma msM (.remote (Dev.tc (ynD d)) psM (.dma (stS 0))) (.dma (stS 1)) msW.wordExact psW.wordExact ⟨⟨rfl, Or.inl rfl⟩, trivial⟩)

/-- From the received statistics to the end. -/
def finish (d : Dev nD) : PT (F := F) := do
  Prog.lift (.waitDma2 (stS 1) msM psM msW.wordExact psW.wordExact)
  let a : Vec F S1x512x16 .f32 ← Prog.lift (.load msM (rStats 0).toLoadRect (View.loadsAt_vmem h_S1x512x16))
  let b : Vec F S1x512x16 .f32 ← Prog.lift (.load msM (rStats 1).toLoadRect (View.loadsAt_vmem h_S1x512x16))
  let p : Vec F S1x512x16 .f32 ← Prog.lift (.load psM (rStats 0).toLoadRect (View.loadsAt_vmem h_S1x512x16))
  let q : Vec F S1x512x16 .f32 ← Prog.lift (.load psM (rStats 1).toLoadRect (View.loadsAt_vmem h_S1x512x16))
  loop (stepC d (facM a b p q)) 16 (le_refl _)
  loop (stepD d (facO a b p q)) 16 (le_refl _)
  Prog.lift (.waitDma2 (stS 0) psM msM psW.wordExact msW.wordExact)

/-- The body on device `d`. -/
def myBody (d : Dev nD) : PT (F := F) := do
  prologue d
  startW 0
  loop (stepA d) 16 (le_refl _)
  sendSt d
  loop (stepB d) 16 (le_refl _)
  finish d

end Cert.Softmax
-- ==== Proof.Protocol.lean ====
/- The protocol of the kernel's semaphores as a schedule of rounds: the cells, the contents of the buffers at each
   hand-over, what each landing hands over, what every device owes at the launch, and the order of the waits. -/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part, and the rounds of the kernel's own cells (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Places -/

/-- Device `d` sends chunk `k` of its own half (and forwards chunk `k` of the other). -/
def par (d : Dev nD) (k : Fin 16) : Bool := d.val / 2 == k.val % 2

theorem condE_iff : ∀ (d : Dev nD) (k : Fin 16), condE d k = 1#1 ↔ par d k = true := by decide
theorem condN_iff : ∀ (d : Dev nD) (k : Fin 16), condN d k = 1#1 ↔ par d k = false := by decide
theorem par_xn : ∀ (d : Dev nD) (k : Fin 16), par (xnD d) k = !par d k := by decide
theorem par_yn : ∀ (d : Dev nD) (k : Fin 16), par (ynD d) k = par d k := by decide
theorem xn_xn : ∀ d : Dev nD, xnD (xnD d) = d := by decide
theorem yn_yn : ∀ d : Dev nD, ynD (ynD d) = d := by decide
theorem xn_yn : ∀ d : Dev nD, xnD (ynD d) = ynD (xnD d) := by decide

def xnE : Dev nD ≃ Dev nD := ⟨xnD, xnD, xn_xn, xn_xn⟩
def ynE : Dev nD ≃ Dev nD := ⟨ynD, ynD, yn_yn, yn_yn⟩

theorem off_yn : ∀ (d : Dev nD) (k : Fin 16), offO d k = offM (ynD d) k := by decide +kernel
theorem off_xn : ∀ (d : Dev nD) (k : Fin 16), offM (xnD d) k = offM d k := by decide +kernel
theorem off_xn' : ∀ (d : Dev nD) (k : Fin 16), offO (xnD d) k = offO d k := by decide +kernel

theorem slice_eq {o o' : Fin 2 → Nat} (h : o = o') (hi : ∀ a, o a + S512x512.size a ≤ S512x16384.size a) (hi' : ∀ a, o' a + S512x512.size a ≤ S512x16384.size a) :
    (oM.slice (Rect.unit (s := S512x16384) o S512x512.size hi) (fun _ => rfl) : Memref sig .tc .vmem S512x512 .bf16)
      = oM.slice (Rect.unit (s := S512x16384) o' S512x512.size hi') (fun _ => rfl) := by subst h; rfl
theorem chO_eq (d : Dev nD) (k : Fin 16) : chO d k = chM (ynD d) k := slice_eq (off_yn d k) _ _
theorem chM_yn (d : Dev nD) (k : Fin 16) : chM (ynD d) k = chO d k := (chO_eq d k).symm
theorem chM_xn (d : Dev nD) (k : Fin 16) : chM (xnD d) k = chM d k := slice_eq (off_xn d k) _ _
theorem chO_xn (d : Dev nD) (k : Fin 16) : chO (xnD d) k = chO d k := slice_eq (off_xn' d k) _ _
theorem chO_yn (d : Dev nD) (k : Fin 16) : chO (ynD d) k = chM d k := by rw [chO_eq, yn_yn]

/-! ## The cells -/

/-- The kernel's scoped semaphores: the four families of sixteen (`sy`, `f`, `ry`, `fr`), the two of the weight slots,
    the two of the statistics. -/
abbrev OK : Type := (Fin 4 × Fin 16) ⊕ (Fin 2 ⊕ Fin 2)
/-- Those and the barrier. -/
abbrev CK : Type := OK ⊕ Unit

def q4 (i : Fin 4) (k : Fin 16) : DmaSem sig := match i with
  | 0 => syS k
  | 1 => fS k
  | 2 => ryS k
  | 3 => frS k
def osem : OK → SemLoc sig
  | .inl ik => .dma (q4 ik.1 ik.2)
  | .inr (.inl s) => .dma (wS s)
  | .inr (.inr s) => .dma (stS s)
def csem : CK → SemLoc sig
  | .inl o => osem o
  | .inr _ => .reg barS

abbrev kQ (i : Fin 4) (k : Fin 16) : CK := .inl (.inl (i, k))
abbrev kW (s : Fin 2) : CK := .inl (.inr (.inl s))
abbrev kSt (s : Fin 2) : CK := .inl (.inr (.inr s))
abbrev kBar : CK := .inr ()

theorem csem_inj : Function.Injective csem := by
  have h : ∀ a b : CK, csem a = csem b → a = b := by decide +kernel
  exact fun a b => h a b

/-- Which cell a semaphore is. -/
def dec (s : SemLoc sig) : Option CK := if h : ∃ k, csem k = s then some h.choose else none
theorem dec_csem (k : CK) : dec (csem k) = some k := by
  unfold dec
  rw [dif_pos ⟨k, rfl⟩]
  exact congrArg some (csem_inj (Exists.choose_spec (⟨k, rfl⟩ : ∃ k', csem k' = csem k)))

abbrev cell (c : Dev nD) (k : CK) : GSem nD τ sig := ((c : Thread nD τ), csem k)
theorem cell_inj {c c' : Dev nD} {k k' : CK} (h : cell c k = cell c' k') : c = c' ∧ k = k' :=
  ⟨Fin.ext (congrArg (fun g : GSem nD τ sig => g.1.1.val) h), csem_inj (congrArg Prod.snd h)⟩

/-! ## Contents -/

/-- The staged `x`, and it rounded. -/
def xstg (c : Dev nD) : (cc0_stg0_0 : Ref sig .tc).ty.Contents (Elt F) :=
  (win0_0.blk (0 : Fin 1)).view.read (Elt F) (m ((c : Thread nD τ).loc main_arg0))
def xbv (c : Dev nD) : FVec F S512x1024 .bf16 := k0_pay2 (xstg m c)
/-- Block `k` of the weights of `c`, and as the slot holds it. -/
def wblk (c : Dev nD) (k : Fin 16) : Vec F S1024x512 .f32 := (wBlk k).view.read (Elt F) (m ((c : Thread nD τ).loc main_arg1))
def wv (c : Dev nD) (k : Fin 16) : Vec F S1x1024x512 .f32 :=
  fun i => wblk m c k ((Shape.reshapeEquiv squeezes_S1x1024x512_S1024x512.numel_eq).symm i)
/-- The exponentials of block `k` of `c`, rounded: a chunk as it is sent. -/
def expv (c : Dev nD) (k : Fin 16) : FVec F S512x512 .bf16 := k0_pay8 (k0_pay5 (wv m c k) (xbv m c))
/-- The statistics of `c`: the row maxima of the sixteen blocks and their row sums. -/
def statv (c : Dev nD) (s : Fin 2) (k : Fin 16) : FVec F S1x512x1 .f32 :=
  if s = 0 then k0_pay6 (wv m c k) (xbv m c) else k0_pay7 (wv m c k) (xbv m c)
def stats (c : Dev nD) : (cc0_scratch2 : Ref sig .tc).ty.Contents (Elt F) :=
  fun i => statv m c (i 0) (i 2) (fun a => match a with | 0 => (0 : Fin 1) | 1 => i 1 | 2 => (0 : Fin 1))
/-- The device whose exponentials reach chunk `k` of the other half of `c`. -/
def origin (c : Dev nD) (k : Fin 16) : Dev nD := if par c k then ynD c else ynD (xnD c)
def expo (c : Dev nD) (k : Fin 16) : FVec F S512x512 .bf16 := expv m (origin c k) k

abbrev rdS (s : Fin 2) (f : (cc0_scratch2 : Ref sig .tc).ty.Contents (Elt F)) : Vec F S1x512x16 .f32 := (msM).view.readAt (Elt F) (rStats s).toLoadRect f
abbrev rdP (s : Fin 2) (f : (cc0_scratch3 : Ref sig .tc).ty.Contents (Elt F)) : Vec F S1x512x16 .f32 := (psM).view.readAt (Elt F) (rStats s).toLoadRect f
/-- The two factors of `c`. -/
def facMv (c : Dev nD) : FVec F S512x16 .bf16 := facM (rdS 0 (stats m c)) (rdS 1 (stats m c)) (rdP 0 (stats m (ynD c))) (rdP 1 (stats m (ynD c)))
def facOv (c : Dev nD) : FVec F S512x16 .bf16 := facO (rdS 0 (stats m c)) (rdS 1 (stats m c)) (rdP 0 (stats m (ynD c))) (rdP 1 (stats m (ynD c)))

/-! ## What the cells hand over -/

abbrev ownsF (c : Dev nD) {sp : Space} {sh : Shape} {e : EltTy} (b : Memref sig .tc sp sh e) (X : sh.Idx → Elt F e) : sProp 𝕄 :=
  owns (Ix := Unit) (Name := ℕ) (U := UU) (Lvl := ℕ) (c : Thread nD τ) b fullShare X
abbrev anyF (c : Dev nD) {sp : Space} {sh : Shape} {e : EltTy} (b : Memref sig .tc sp sh e) : sProp 𝕄 := iprop(∃ X : sh.Idx → Elt F e, ownsF c b X)
def pts (c : Dev nD) (b : Ref sig .tc) (q : PosShare TreeShare) (f : Buf (Elt F) ((c : Thread nD τ).loc b)) : sProp 𝕄 := ((c : Thread nD τ).loc b) ↦{q} f

omit [FloatOps F] in
instance pts_storable (c : Dev nD) (b : Ref sig .tc) (q : PosShare TreeShare) (f) : BI.Storable (upEmb : UEmb _ 𝕄) (pts (F := F) c b q f) := by unfold pts; infer_instance

/-- What the unit from `yn c` hands over: on `yn c`, the chunks that `c` sends into, and the buffer for its statistics. -/
def barY (c : Dev nD) : sProp 𝕄 :=
  iprop((bigSep Finset.univ fun k : Fin 16 => if par c k then anyF (ynD c) (chM c k) else iprop(emp)) ∗ ∃ f, pts (ynD c) cc0_scratch3 fullShare f)
/-- What the unit from `xn c` hands over: on `xn c`, the chunks that `c` forwards into. -/
def barX (c : Dev nD) : sProp 𝕄 :=
  bigSep Finset.univ fun k : Fin 16 => if par c k then anyF (xnD c) (chO c k) else iprop(emp)

omit [FloatOps F] in
instance emp_if_storable (b : Bool) (P : sProp 𝕄) [BI.Storable (upEmb : UEmb _ 𝕄) P] : BI.Storable (upEmb : UEmb _ 𝕄) (if b then P else iprop(emp)) := by
  cases b
  · rw [if_neg Bool.false_ne_true]; infer_instance
  · rw [if_pos rfl]; infer_instance

/-- Block `2 r + s`, which slot `s` receives in round `r`. -/
abbrev blkOf (s : Fin 2) (r : ℕ) : Fin 16 := ⟨(2 * r + s.val) % 16, Nat.mod_lt _ (by decide)⟩

def payQ (c : Dev nD) (i : Fin 4) (k : Fin 16) : sProp 𝕄 := match i with
  | 0 => ownsF c (chM c k) (expv m c k)
  | 1 => ownsF c (chO c k) (expo m c k)
  | 2 => ownsF c (chO c k) (expo m c k)
  | 3 => ownsF c (chO c k) (expo m c k)
def payW (c : Dev nD) (s : Fin 2) (r : ℕ) : sProp 𝕄 :=
  iprop(ownsF c (slotM s) (wblk m c (blkOf s r)) ∗ ownsF c (wBlk (blkOf s r)) (wblk m c (blkOf s r)))
def paySt (c : Dev nD) (s : Fin 2) : sProp 𝕄 :=
  if s = 0 then pts c cc0_scratch2 fullShare.right (stats m c) else pts c cc0_scratch3 fullShare (stats m (ynD c))

def pay (c : Dev nD) (k : CK) (r : ℕ) (d : Bool) : sProp 𝕄 := match k with
  | .inl (.inl ik) => payQ m c ik.1 ik.2
  | .inl (.inr (.inl s)) => payW m c s r
  | .inl (.inr (.inr s)) => paySt m c s
  | .inr _ => if d then barY c else barX c

instance pay_storable (c : Dev nD) (k : CK) (r : ℕ) (d : Bool) : BI.Storable (upEmb : UEmb _ 𝕄) (pay (F := F) m c k r d) := by
  rcases k with (⟨i, k⟩ | s | s) | u
  · show BI.Storable upEmb (payQ m c i k)
    fin_cases i <;> (unfold payQ; infer_instance)
  · show BI.Storable upEmb (payW m c s r)
    unfold payW; infer_instance
  · show BI.Storable upEmb (paySt m c s)
    unfold paySt; split <;> infer_instance
  · show BI.Storable upEmb (if d then barY c else barX c)
    unfold barY barX
    cases d
    · rw [if_neg Bool.false_ne_true]; infer_instance
    · rw [if_pos rfl]; infer_instance

/-! ## The schedule -/

def No : ℕ := (oM.slice (rM 0 0) (fun _ => rfl) : Memref sig .tc .vmem S512x512 .bf16).view.dmaCredit
def Nw : ℕ := (slotM 0).view.dmaCredit
def Ns : ℕ := (msM).view.dmaCredit
theorem No_pos : 0 < No := View.dmaCredit_pos _ (by decide +kernel)
theorem Nw_pos : 0 < Nw := View.dmaCredit_pos _ (by decide +kernel)
theorem Ns_pos : 0 < Ns := View.dmaCredit_pos _ (by decide +kernel)
theorem creditM (d : Dev nD) (k : Fin 16) : (chM d k).view.dmaCredit = No := rfl
theorem creditO (d : Dev nD) (k : Fin 16) : (chO d k).view.dmaCredit = No := rfl
theorem creditW (s : Fin 2) : (slotM s).view.dmaCredit = Nw := rfl
theorem creditS : (msM).view.dmaCredit = Ns := rfl
theorem creditP : (psM).view.dmaCredit = Ns := rfl

/-- Whether the cell is used on the device: the sends and the receipt from `yn` at the device's parity, the receipt
    from `xn` at the other. -/
def act (c : Dev nD) (i : Fin 4) (k : Fin 16) : Bool := if i = 3 then !par c k else par c k

def dut (c : Dev nD) (k : CK) (r : ℕ) : Finset Bool := match k with
  | .inl (.inl ik) => if r = 0 ∧ act c ik.1 ik.2 = true then {false} else ∅
  | .inl (.inr (.inl _)) => if r < 8 then {false} else ∅
  | .inl (.inr (.inr _)) => if r = 0 then {false} else ∅
  | .inr _ => if r = 0 then Finset.univ else ∅
def amt : CK → ℕ
  | .inl (.inl _) => No
  | .inl (.inr (.inl _)) => Nw
  | .inl (.inr (.inr _)) => Ns
  | .inr _ => 1
theorem amt_pos (k : CK) : 0 < amt k := by
  rcases k with (_ | _ | _) | _
  · exact No_pos
  · exact Nw_pos
  · exact Ns_pos
  · exact Nat.one_pos

def sched : Rounds.Schedule (GSem nD τ sig) Bool 𝕄 where
  duties g r := if g.1.2 = .tc then (dec g.2).elim ∅ (fun k => dut g.1.1 k r) else ∅
  unitless _ := False
  amount g _ _ := (dec g.2).elim 1 amt
  payload g r d := (dec g.2).elim iprop(emp) (fun k => pay m g.1.1 k r d)
  amount_pos g _ _ _ := by
    cases dec g.2 with
    | none => exact Nat.one_pos
    | some k => exact amt_pos k

instance sched_storable (g : GSem nD τ sig) (r : ℕ) (d : Bool) : BI.Storable (upEmb : UEmb _ 𝕄) ((sched (F := F) m).payload g r d) := by
  show BI.Storable upEmb ((dec g.2).elim iprop(emp) (fun k => pay m g.1.1 k r d))
  cases dec g.2 with
  | none => exact inferInstanceAs (BI.Storable upEmb iprop(emp))
  | some k => exact pay_storable m g.1.1 k r d

section Sched
variable (c : Dev nD) (k : CK) (r : ℕ) (d : Bool)

theorem duties_eq : (sched (F := F) m).duties (cell c k) r = dut c k r := by
  unfold sched; dsimp only; rw [dec_csem]; exact if_pos rfl
theorem amount_eq : (sched (F := F) m).amount (cell c k) r d = amt k := by
  show (dec (csem k)).elim 1 amt = _
  rw [dec_csem]; rfl
theorem payload_eq : (sched (F := F) m).payload (cell c k) r d = pay m c k r d := by
  show (dec (csem k)).elim _ (fun k => pay m c k r d) = _
  rw [dec_csem]; rfl
theorem expect_one (h : dut c k r = {false}) : (sched (F := F) m).expect (cell c k) r = amt k := by
  unfold Schedule.expect Schedule.amountOf; rw [duties_eq, h, Finset.sum_singleton, amount_eq]
theorem expect_bar : (sched (F := F) m).expect (cell c kBar) 0 = 2 := by
  unfold Schedule.expect Schedule.amountOf
  rw [duties_eq, Finset.sum_congr rfl fun d _ => amount_eq m c kBar 0 d, show dut c kBar 0 = Finset.univ from rfl, show amt kBar = 1 from rfl]
  rfl
theorem rest_one (h : dut c k r = {false}) :
    bigSep ((sched (F := F) m).duties (cell c k) r \ ∅) (fun d => (sched (F := F) m).payload (cell c k) r d) = pay m c k r false := by
  rw [Finset.sdiff_empty, duties_eq, h, bigSep_singleton, payload_eq]
theorem rest_bar :
    bigSep ((sched (F := F) m).duties (cell c kBar) 0 \ ∅) (fun d => (sched (F := F) m).payload (cell c kBar) 0 d) = iprop(barX c ∗ barY c) := by
  rw [Finset.sdiff_empty, duties_eq, show dut c kBar 0 = Finset.univ from rfl, bigSep_univ_eq_bigSepL [false, true] (by decide) (by decide),
    bigSepL_cons_cons, bigSepL_singleton, payload_eq, payload_eq]
  rfl
end Sched

/-! ## What each device owes at launch; the order of the waits -/

/-- The sends along `y` from chunk `n` on, and those along `x`. -/
def owY (c : Dev nD) (n : ℕ) : CellTallies nD τ sig Unit :=
  ∑ k : Fin 16, if n ≤ k.val ∧ par c k = true then tallyAt (cell (ynD c) (kQ 2 k)) () No else 0
def owX (c : Dev nD) (n : ℕ) : CellTallies nD τ sig Unit :=
  ∑ k : Fin 16, if n ≤ k.val ∧ par c k = true then tallyAt (cell (xnD c) (kQ 3 k)) () No else 0
def owSt (c : Dev nD) : CellTallies nD τ sig Unit := tallyAt (cell (ynD c) (kSt 1)) () Ns
def owA (c : Dev nD) (n : ℕ) : CellTallies nD τ sig Unit := owX c 0 + owSt c + owY c n
/-- The first signal, to `xn c`, takes the last summand; the second, to `yn c`, the one before. -/
def owB (c : Dev nD) : CellTallies nD τ sig Unit := owA c 0 + tallyAt (cell (ynD c) kBar) () 1
def ow₀ (c : Dev nD) : CellTallies nD τ sig Unit := owB c + tallyAt (cell (xnD c) kBar) () 1

theorem sum_step {M : Type} [AddCommMonoid M] (p : Fin 16 → Prop) [DecidablePred p] (t : Fin 16 → M) (k : Fin 16) :
    (∑ j : Fin 16, if k.val ≤ j.val ∧ p j then t j else 0) = (∑ j : Fin 16, if k.val + 1 ≤ j.val ∧ p j then t j else 0) + if p k then t k else 0 := by
  rw [← Finset.sum_ite_eq' Finset.univ k (fun k => if p k then t k else 0) |>.trans (if_pos (Finset.mem_univ k)), ← Finset.sum_add_distrib]
  refine Finset.sum_congr rfl fun j _ => ?_
  by_cases hj : j = k
  · subst hj
    rw [if_neg (fun h : j.val + 1 ≤ j.val ∧ p j => absurd h.1 (by omega)), if_pos rfl, zero_add]
    exact if_congr (by simp) rfl rfl
  · have hne : j.val ≠ k.val := fun h => hj (Fin.ext h)
    rw [if_neg hj, add_zero]
    exact if_congr (by constructor <;> rintro ⟨h, h'⟩ <;> exact ⟨by omega, h'⟩) rfl rfl

theorem owY_step (c : Dev nD) (k : Fin 16) :
    owY c k.val = owY c (k.val + 1) + if par c k = true then tallyAt (cell (ynD c) (kQ 2 k)) () No else 0 := sum_step (fun k => par c k = true) _ k
theorem owX_step (c : Dev nD) (k : Fin 16) :
    owX c k.val = owX c (k.val + 1) + if par c k = true then tallyAt (cell (xnD c) (kQ 3 k)) () No else 0 := sum_step (fun k => par c k = true) _ k
theorem owY_end (c : Dev nD) : owY c 16 = 0 := Finset.sum_eq_zero fun k _ => if_neg fun h => absurd h.1 (by have := k.isLt; omega)
theorem owX_end (c : Dev nD) : owX c 16 = 0 := Finset.sum_eq_zero fun k _ => if_neg fun h => absurd h.1 (by have := k.isLt; omega)

def L (g : GSem nD τ sig) : Finset Unit := if g.1.2 = .tc then {()} else ∅
/-- The barrier at 1, the receipts from `yn` at 2, those from `xn` at 3, everything else at 0. -/
def lvK : CK → ℕ
  | .inl (.inl ik) => if ik.1 = 2 then 2 else if ik.1 = 3 then 3 else 0
  | .inl (.inr (.inl _)) => 0
  | .inl (.inr (.inr s)) => if s = 1 then 2 else 0
  | .inr _ => 1
def lv (g : GSem nD τ sig) (_ : Unit) : ℕ := (dec g.2).elim 0 lvK
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvK k := by unfold lv; rw [dec_csem]; rfl

/-- All that is owed is owed to cells above level `b`. -/
def Above (b : ℕ) (O : CellTallies nD τ sig Unit) : Prop := ∀ g u, 0 < O g u → ∃ c k, g = cell c k ∧ b < lvK k

theorem above_zero (b : ℕ) : Above b 0 := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by rwa [h0, Nat.zero_add] at hg)
  · exact h g u h0
theorem above_tally {b : ℕ} (c : Dev nD) (k : CK) (n : ℕ) (h : b < lvK k) : Above b (tallyAt (cell c k) () n) := fun g u hg => by
  rw [tallyAt_apply] at hg
  by_cases hh : g = cell c k ∧ u = ()
  · exact ⟨c, k, hh.1, h⟩
  · rw [if_neg hh] at hg; exact absurd hg (Nat.lt_irrefl 0)
theorem above_sum {b : ℕ} (f : Fin 16 → CellTallies nD τ sig Unit) (h : ∀ k, Above b (f k)) : Above b (∑ k, f k) :=
  Finset.sum_induction f (Above b) (fun _ _ => above_add) (above_zero b) fun k _ => h k
theorem above_owY (c : Dev nD) (n : ℕ) : Above 1 (owY c n) := above_sum _ fun k => by
  split
  · exact above_tally _ _ _ (by show 1 < 2; decide)
  · exact above_zero 1
theorem above_owX (c : Dev nD) (n : ℕ) : Above 2 (owX c n) := above_sum _ fun k => by
  split
  · exact above_tally _ _ _ (by show 2 < 3; decide)
  · exact above_zero 2
theorem above_le {b b' : ℕ} (hb : b ≤ b') {O : CellTallies nD τ sig Unit} (h : Above b' O) : Above b O := fun g u hg => by
  obtain ⟨c, k, e, hk⟩ := h g u hg
  exact ⟨c, k, e, by omega⟩
theorem above_owA (c : Dev nD) (n : ℕ) : Above 1 (owA c n) :=
  above_add (above_add (above_le (by decide) (above_owX c 0)) (above_tally _ _ _ (by show 1 < 2; decide))) (above_owY c n)
theorem above_ow₀ (c : Dev nD) : Above 0 (ow₀ c) :=
  above_add (above_add (above_le (by decide) (above_owA c 0)) (above_tally _ _ _ (by show 0 < 1; decide))) (above_tally _ _ _ (by show 0 < 1; decide))

theorem mayWait (c : Dev nD) (sm : SemLoc sig) (b : ℕ) (O : CellTallies nD τ sig Unit) (hs : (dec sm).elim 0 lvK ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact hs)
    (fun g u hg => by obtain ⟨c', k, rfl, h⟩ := hO g u hg; rw [lv_cell]; exact h)
theorem mayWait_cell (c : Dev nD) (k : CK) (O : CellTallies nD τ sig Unit) (b : ℕ) (hk : lvK k ≤ b) (hO : Above b O) :
    (levAts L lv : sProp 𝕄) ⊢ MayWait (c : Thread nD τ) (csem k) () O :=
  mayWait c (csem k) b O (by rw [dec_csem]; exact hk) hO

/-! ## The persistent records: every cell's invariant, and that its first round is reached -/

def records (K : Dev nD × CK → ℕ) : sProp 𝕄 :=
  iprop((bigSep Finset.univ fun ck : Dev nD × CK => cellInv ER (sched m) (K ck) (cell ck.1 ck.2))
    ∗ bigSep Finset.univ fun ck : Dev nD × CK => reached ER (cell ck.1 ck.2) 0)
instance records_persistent (K : Dev nD × CK → ℕ) : BI.Persistent (records (F := F) m K) := by unfold records; infer_instance

theorem inv_all (K : Dev nD × CK → ℕ) (ck : Dev nD × CK) :
    (bigSep Finset.univ fun ck : Dev nD × CK => (cellInv ER (sched m) (K ck) (cell ck.1 ck.2) : sProp 𝕄)) ⊢ cellInv ER (sched m) (K ck) (cell ck.1 ck.2) :=
  bigSep_elim (Finset.mem_univ ck)
omit [FloatOps F] in
theorem reached_all (ck : Dev nD × CK) :
    (bigSep Finset.univ fun ck : Dev nD × CK => (reached ER (cell ck.1 ck.2) 0 : sProp 𝕄)) ⊢ reached ER (cell ck.1 ck.2) 0 :=
  bigSep_elim (Finset.mem_univ ck)
theorem inv_at (K : Dev nD × CK → ℕ) (c : Dev nD) (k : CK) : records (F := F) m K ⊢ cellInv ER (sched m) (K (c, k)) (cell c k) := by
  unfold records
  iintro ⟨H, -⟩
  iapply (inv_all m K (c, k)); iexact H
theorem reached_at (K : Dev nD × CK → ℕ) (c : Dev nD) (k : CK) : records (F := F) m K ⊢ reached ER (cell c k) 0 := by
  unfold records
  iintro ⟨-, H⟩
  iapply (reached_all (F := F) (c, k)); iexact H

end Cert.Softmax
-- ==== Proof.Pieces.lean ====
/- The pieces of a step under the protocol: a wait, a send, a copy of the weights, the loads and stores of a chunk.
   Each is told with what follows it: from what it needs, and from the rest of the program run on what it leaves. -/
module

public import proofs.«01_k».proof.Proof.Protocol
public import Idealize.ShloMosaic.Lib.Pipeline.ValueKit.Geometry
public import Idealize.ShloMosaic.Lib.Writes

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

abbrev 𝒱₀ : Variants := Variants.none

/-- The rest `p` of the body on device `c` ends in `Q`. -/
abbrev Runs (p : PT (F := F)) (Q : PUnit → sProp 𝕄) : sProp 𝕄 :=
  wp frame (wpE (defs₀ (F := F)) 𝒱₀ (c : Thread nD τ) none) Set.univ p Q

/-- What `c` still owes, whatever it has waited for. -/
def ow (O : CellTallies nD τ sig Unit) : sProp 𝕄 := iprop(∃ W, owes (c : Thread nD τ) O W)

/-- What every step may use at any time. -/
def ctx : sProp 𝕄 := iprop(records m K ∗ levAts L lv)
instance ctx_persistent : BI.Persistent (ctx (F := F) m K) := by unfold ctx; infer_instance

abbrev at₀ (k : CK) (r : ℕ) : sProp 𝕄 := atPos ER (cell c k) r ∅ 0
abbrev tok (k : CK) (r : ℕ) : sProp 𝕄 := dutyTok ER (cell c k) r false

theorem mem_duty {c : Dev nD} {k : CK} {r : ℕ} (h : dut c k r = {false}) : false ∈ (sched (F := F) m).duties (cell c k) r := by
  rw [duties_eq, h]; exact Finset.mem_singleton_self _
theorem to_pay {c : Dev nD} {k : CK} {r : ℕ} {d : Bool} {X : sProp 𝕄} (h : X ⊢ pay m c k r d) : X ⊢ (sched (F := F) m).payload (cell c k) r d := by
  rw [payload_eq]; exact h
theorem dut_Q {c : Dev nD} {i : Fin 4} {k : Fin 16} (h : act c i k = true) : dut c (kQ i k) 0 = {false} := if_pos ⟨rfl, h⟩

/-! ## Waits -/

/-- A wait for the one landing of a round. -/
theorem wait_cell {Q : PUnit → sProp 𝕄} {w : TpuEff nD τ sig (Elt F) Λ₀ .tc PUnit} {kont : PUnit → PT (F := F)} (k : CK) (r : ℕ) (hd : dut c k r = {false})
    (hw : ∀ X : PUnit → sProp 𝕄, wpE (defs₀ (F := F)) 𝒱₀ (c : Thread nD τ) none Set.univ w X = waitSpec (c : Thread nD τ) Set.univ (csem k) (amt k) X)
    (O : CellTallies nD τ sig Unit) (b : ℕ) (hb : lvK k ≤ b) (hO : Above b O) :
    iprop(ctx m K ∗ cred (tallyAt (cell c k) () (amt k)) ∗ ow c O ∗ at₀ c k r)
      ⊢ iprop(((ow c O ∗ at₀ c k (r + 1) ∗ reached ER (cell c k) (r + 1) ∗ pay m c k r false) -∗ Runs c (kont ⟨⟩) Q) -∗ Runs c (.op w kont) Q) := by
  unfold ctx ow
  iintro ⟨⟨#HR, #HL⟩, Hc, ⟨%W, Ho⟩, Hat⟩ Hk
  have he : 0 + amt k = (sched (F := F) m).expect (cell c k) r := by rw [Nat.zero_add, expect_one m c k r hd]
  iapply (Rounds.wp_wait_rest_token 𝒱₀ ER (sched m) (c : Thread nD τ) none (κ := K (c, k)) hw (Set.mem_univ _) () (O := O) (W := W) (R := r) (m := 0) (T := ∅) he) $$ [Hc Ho Hat]
  · isplitr; · iapply (inv_at m K c k); iexact HR
    isplitl [Hc]; · iexact Hc
    isplitl [Ho]; · iexact Ho
    isplitr; · iapply (mayWait_cell c k O b hb hO); iexact HL
    iexact Hat
  iintro ⟨Ho, Hat, Hr, Hp⟩
  iapply Hk
  isplitl [Ho]; · iexists _; iexact Ho
  isplitl [Hat]; · iexact Hat
  isplitl [Hr]; · iexact Hr
  iapply (Entails.of_eq (rest_one m c k r hd)); iexact Hp

/-- A cell with no landing to come gives its counter back, at zero. -/
theorem close_cell (k : CK) (r : ℕ) (h : ∀ r', r ≤ r' → dut c k r' = ∅) :
    iprop(ctx m K ∗ at₀ c k r) ⊢ (|={Set.univ}=> semVal (cell c k) 0 : sProp 𝕄) := by
  unfold ctx
  iintro ⟨⟨#HR, -⟩, Hat⟩
  iapply (Rounds.cell_close ER (sched m) (Set.mem_univ (K (c, k))) (fun h => h) (R := r) (fun r' hr => (duties_eq m c k r').trans (h r' hr)))
  isplitr; · iapply (inv_at m K c k); iexact HR
  iexact Hat

/-- A wait on one of the four families, after which its cell is closed. -/
theorem wait_Q {Q : PUnit → sProp 𝕄} {w : TpuEff nD τ sig (Elt F) Λ₀ .tc PUnit} {kont : PUnit → PT (F := F)} (i : Fin 4) (k : Fin 16) (ha : act c i k = true)
    (hw : ∀ X : PUnit → sProp 𝕄, wpE (defs₀ (F := F)) 𝒱₀ (c : Thread nD τ) none Set.univ w X = waitSpec (c : Thread nD τ) Set.univ (csem (kQ i k)) No X)
    (O : CellTallies nD τ sig Unit) (b : ℕ) (hb : lvK (kQ i k) ≤ b) (hO : Above b O) :
    iprop(ctx m K ∗ cred (tallyAt (cell c (kQ i k)) () No) ∗ ow c O ∗ at₀ c (kQ i k) 0)
      ⊢ iprop(((ow c O ∗ semVal (cell c (kQ i k)) 0 ∗ payQ m c i k) -∗ Runs c (kont ⟨⟩) Q) -∗ Runs c (.op w kont) Q) := by
  iintro ⟨#HR, Hc, Ho, Hat⟩ Hk
  iapply (wait_cell m K c (kQ i k) 0 (if_pos ⟨rfl, ha⟩) hw O b hb hO) $$ [Hc Ho Hat]
  · isplitr; · iexact HR
    isplitl [Hc]; · iexact Hc
    isplitl [Ho] <;> iassumption
  iintro ⟨Ho, Hat, -, Hp⟩
  imod (close_cell m K c (kQ i k) 1 (fun r' hr => if_neg fun h => by omega)) $$ [Hat] with Hz
  · isplitr; · iexact HR
    iexact Hat
  iapply Hk
  isplitl [Ho]; · iexact Ho
  isplitl [Hz]; · iexact Hz
  iapply (Entails.of_eq (show pay m c (kQ i k) 0 false = payQ m c i k from rfl)); iexact Hp

/-- The cells of the other parity close unused. -/
theorem close_Q (i : Fin 4) (k : Fin 16) (ha : act c i k = false) :
    iprop(ctx m K ∗ at₀ c (kQ i k) 0) ⊢ (|={Set.univ}=> semVal (cell c (kQ i k)) 0 : sProp 𝕄) :=
  close_cell m K c (kQ i k) 0 fun r' _ => if_neg fun h => by rw [ha] at h; exact absurd h.2 Bool.false_ne_true

/-! ## The copies of the weights -/

abbrev sl (k : Fin 16) : Fin 2 := slotOf k
theorem blkOf_slot (k : Fin 16) : blkOf (sl k) (k.val / 2) = k := Fin.ext (by
  show (2 * (k.val / 2) + k.val % 2) % 16 = k.val
  have := k.isLt; omega)

theorem dut_W (k : Fin 16) : dut c (kW (sl k)) (k.val / 2) = {false} := if_pos (by have := k.isLt; omega)

/-- A block of the weights with the right to pay for its copy. -/
def wTok (k : Fin 16) : sProp 𝕄 := iprop(ownsF c (wBlk k) (wblk m c k) ∗ tok c (kW (sl k)) (k.val / 2))

/-- A copy within the device whose landing hands over both ends. -/
theorem copy_runs {Q : PUnit → sProp 𝕄} {kont : PUnit → PT (F := F)} {sp sp' : Space} {sh : Shape} {e : EltTy}
    (a : Memref sig .tc sp sh e) (b : Memref sig .tc sp' sh e) (k : CK) (r : ℕ) (hd : dut c k r = {false}) (X : sh.Idx → Elt F e)
    (hb : b.view.amount (csem k) = amt k) (h : pay m c k r false = iprop(ownsF c b X ∗ ownsF c a X))
    {hsrc : a.view.WordExact} {hdst : b.view.WordExact} {hsem : DmaTarget.Typed sp (csem k) (.here b : DmaTarget nD τ sig .tc sp' sh e)} :
    iprop(ctx m K ∗ anyF c b ∗ ownsF c a X ∗ tok c k r ∗ reached ER (cell c k) r)
      ⊢ iprop((cred (tallyAt (cell c k) () (amt k)) -∗ Runs c (kont ⟨⟩) Q) -∗ Runs c (.op (.enqueueDma a (.here b) (csem k) hsrc hdst hsem) kont) Q) := by
  unfold ctx
  simp only [anyF, ownsF, owns]
  iintro ⟨⟨#HR, -⟩, ⟨%Y, %fd, -, Hd⟩, ⟨%fs, %hfs, Hs⟩, Ht, Hr⟩ Hk
  iapply (Rounds.wp_copy_pointsTo 𝒱₀ ER (sched m) (c : Thread nD τ) none (src := a) (dst := b) (sem := csem k) (κ := K (c, k))
      (r := r) (d := false) (fd := fd) (fs := fs) (q := fullShare) (mem_duty m hd) () (amt k) hb (amount_eq m c k _ _) (to_pay m (k := k) ?hp)) $$ [Hd Hs Ht Hr]
  case hp =>
    rw [h]
    simp only [ownsF, owns]
    iintro ⟨Hd, Hs⟩
    isplitl [Hd]
    · iexists _; isplitr; swap; · iexact Hd
      ipureintro; rw [View.read_write_univ]; exact hfs
    · iexists _; isplitr; swap; · iexact Hs
      ipureintro; exact hfs
  · isplitr; · iapply (inv_at m K c k); iexact HR
    isplitl [Hs]; · iexact Hs
    isplitl [Hd]; · iexact Hd
    isplitl [Ht]; · iexact Ht
    iexact Hr
  iexact Hk

theorem pay_W (k : Fin 16) : pay m c (kW (sl k)) (k.val / 2) false = iprop(ownsF c (slotM (sl k)) (wblk m c k) ∗ ownsF c (wBlk k) (wblk m c k)) := by
  show payW m c (sl k) (k.val / 2) = _
  unfold payW; rw [blkOf_slot]

theorem startW_runs {Q : PUnit → sProp 𝕄} (k : Fin 16) (r : PT (F := F)) :
    iprop(ctx m K ∗ anyF c (slotM (sl k)) ∗ wTok m c k ∗ reached ER (cell c (kW (sl k))) (k.val / 2)
      ∗ (cred (tallyAt (cell c (kW (sl k))) () Nw) -∗ Runs c r Q)) ⊢ Runs c ((startW k).bind fun _ => r) Q := by
  rw [show ((startW (F := F) k).bind fun _ => r) = .op (.enqueueDma (wBlk k) (.here (slotM (sl k))) (csem (kW (sl k))) (View.wordExact_bits rfl) ((View.wordExact_bits rfl).reshape _ _) ⟨Or.inl rfl, trivial⟩) (fun _ => r) from rfl]
  unfold wTok
  iintro ⟨#HR, Hd, ⟨Hs, Ht⟩, Hr, Hk⟩
  iapply (copy_runs m K c (wBlk k) (slotM (sl k)) (kW (sl k)) (k.val / 2) (dut_W c k) (wblk m c k) (creditW (sl k)) (pay_W m c k)
    (hsrc := View.wordExact_bits rfl) (hdst := (View.wordExact_bits rfl).reshape _ _) (hsem := ⟨Or.inl rfl, trivial⟩)) $$ [Hd Hs Ht Hr]
  · isplitr; · iexact HR
    isplitl [Hd]; · iexact Hd
    isplitl [Hs]; · iexact Hs
    isplitl [Ht]; · iexact Ht
    iexact Hr
  iexact Hk

theorem waitW_runs {Q : PUnit → sProp 𝕄} (k : Fin 16) (r : PT (F := F)) (O : CellTallies nD τ sig Unit) (hO : Above 0 O) :
    iprop(ctx m K ∗ cred (tallyAt (cell c (kW (sl k))) () Nw) ∗ ow c O ∗ at₀ c (kW (sl k)) (k.val / 2)
      ∗ ((ow c O ∗ at₀ c (kW (sl k)) (k.val / 2 + 1) ∗ reached ER (cell c (kW (sl k))) (k.val / 2 + 1)
          ∗ ownsF c (slotM (sl k)) (wblk m c k) ∗ ownsF c (wBlk k) (wblk m c k)) -∗ Runs c r Q)) ⊢ Runs c ((waitW k).bind fun _ => r) Q := by
  rw [show ((waitW (F := F) k).bind fun _ => r) = .op (.waitDma2 (wS (sl k)) (wBlk k) (slotM (sl k)) (View.wordExact_bits rfl) ((View.wordExact_bits rfl).reshape _ _)) (fun _ => r) from rfl]
  iintro ⟨#HR, Hc, Ho, Hat, Hk⟩
  iapply (wait_cell m K c (kW (sl k)) (k.val / 2) (dut_W c k) (w := .waitDma2 (wS (sl k)) (wBlk k) (slotM (sl k)) (View.wordExact_bits rfl) ((View.wordExact_bits rfl).reshape _ _))
    (wpE_waitDma2_eq 𝒱₀ (c : Thread nD τ) none Set.univ) O 0 (le_refl _) hO) $$ [Hc Ho Hat]
  · isplitr; · iexact HR
    isplitl [Hc]; · iexact Hc
    isplitl [Ho] <;> iassumption
  iintro ⟨Ho, Hat, Hr, Hp⟩
  iapply Hk
  isplitl [Ho]; · iexact Ho
  isplitl [Hat]; · iexact Hat
  isplitl [Hr]; · iexact Hr
  iapply (Entails.of_eq (pay_W m c k))
  iexact Hp

/-! ## The sends -/

theorem origin_yn (k : Fin 16) (h : par c k = true) : origin (ynD c) k = c := by
  unfold origin; rw [par_yn, h, if_pos rfl, yn_yn]
theorem origin_xn (k : Fin 16) (h : par c k = true) : origin (xnD c) k = origin c k := by
  unfold origin; rw [par_xn, h, if_pos rfl, xn_xn]; exact if_neg Bool.false_ne_true

/-- The send of a chunk that the device holds, into the same columns of `n`. -/
theorem send_Q {Q : PUnit → sProp 𝕄} {kont : PUnit → PT (F := F)} (n : Dev nD) (b : Memref sig .tc .vmem S512x512 .bf16) (i j : Fin 4) (k : Fin 16)
    (ha : act c i k = true) (ha' : act n j k = true) (X : FVec F S512x512 .bf16) (hb : b.view.dmaCredit = No)
    (h₁ : payQ m c i k = ownsF c b X) (h₂ : payQ m n j k = ownsF n b X) (O : CellTallies nD τ sig Unit)
    {hsc : b.view.ref.isScScratch = false} {hsrc : b.view.WordExact} {hdst : b.view.WordExact}
    {hsem : DmaTarget.Typed .vmem (csem (kQ j k)) (.remote (Dev.tc n : Thread nD τ) b (csem (kQ i k)) hsc)} :
    iprop(ctx m K ∗ ownsF c b X ∗ anyF n b ∗ ow c (O + tallyAt (cell n (kQ j k)) () No) ∗ tok c (kQ i k) 0 ∗ tok n (kQ j k) 0)
      ⊢ iprop(((cred (tallyAt (cell c (kQ i k)) () No) ∗ ow c O) -∗ Runs c (kont ⟨⟩) Q)
        -∗ Runs c (.op (.enqueueDma b (.remote (Dev.tc n : Thread nD τ) b (csem (kQ i k)) hsc) (csem (kQ j k)) hsrc hdst hsem) kont) Q) := by
  unfold ctx ow
  simp only [anyF, ownsF, owns]
  iintro ⟨⟨#HR, -⟩, ⟨%fs, %hfs, Hs⟩, ⟨%Y, %fd, -, Hd⟩, ⟨%W, Ho⟩, Ht, Ht'⟩ Hk
  iapply (Rounds.wp_send_pointsTo 𝒱₀ ER (sched m) (c : Thread nD τ) none (c' := (n : Thread nD τ)) (src := b) (dst := b) (κ₁ := K (c, kQ i k)) (κ₂ := K (n, kQ j k))
      (r₁ := 0) (r₂ := 0) (d₁ := false) (d₂ := false) (fd := fd) (fs := fs)
      (mem_duty m (dut_Q ha)) (mem_duty m (dut_Q ha'))
      () () No (show b.view.amount (csem (kQ j k)) = No from hb) (amount_eq m c (kQ i k) _ _) (amount_eq m n (kQ j k) _ _) O rfl (W := W)
      (to_pay m (k := kQ i k) ?p1) (to_pay m (k := kQ j k) ?p2)) $$ [Hs Hd Ho Ht Ht']
  case p1 =>
    show _ ⊢ payQ m c i k
    rw [h₁]; simp only [anyF, ownsF, owns]
    iintro Hs; iexists _; isplitr; swap; · iexact Hs
    ipureintro; exact hfs
  case p2 =>
    show _ ⊢ payQ m n j k
    rw [h₂]; simp only [anyF, ownsF, owns]
    iintro Hs; iexists _; isplitr; swap; · iexact Hs
    ipureintro; rw [View.read_write_univ]; exact hfs
  · isplitr; · iapply (inv_at m K c (kQ i k)); iexact HR
    isplitr; · iapply (inv_at m K n (kQ j k)); iexact HR
    isplitl [Hs]; · iexact Hs
    isplitl [Hd]; · iexact Hd
    isplitl [Ho]; · iexact Ho
    isplitl [Ht]; · iexact Ht
    isplitr; · iapply (reached_at m K c (kQ i k)); iexact HR
    isplitl [Ht']; · iexact Ht'
    iapply (reached_at m K n (kQ j k)); iexact HR
  iintro ⟨Hc, Ho⟩
  iapply Hk
  isplitl [Hc]; · iexact Hc
  iexists W; iexact Ho

end Cert.Softmax
-- ==== Proof.Comp.lean ====
/- The computations of a step on one chunk: its exponentials and statistics, and its scaling. -/
module

public import proofs.«01_k».proof.Proof.Pieces
public import Idealize.ShloMosaic.Lib.ViewIndex

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-! ## Loads and stores of a part of a buffer that is owned by itself -/

section
variable {cs : CoreSpace} {s : Shape} {e : EltTy} (b : Memref sig .tc cs s e) (r : Rect s) (hr : ∀ a, r.stride a = 1)

theorem load_part {Q : PUnit → sProp 𝕄} {kont : (r.shape.Idx → Elt F e) → PT (F := F)} {hl : b.view.LoadsAt r.toLoadRect} (X : r.shape.Idx → Elt F e) :
    ownsF c (b.slice r hr) X ⊢ iprop((ownsF c (b.slice r hr) X -∗ Runs c (kont X) Q) -∗ Runs c (.op (.load b r.toLoadRect hl) kont) Q) := by
  simp only [ownsF, owns]
  iintro ⟨%f, %hf, H⟩ Hk
  subst hf
  iapply (wp_load_rect 𝒱₀ (c : Thread nD τ) none Set.univ (m := b) (r := r) (S := (b.access r).set) (f := f) subset_rfl) $$ H
  iintro H
  iapply Hk
  iexists f
  isplitr; · ipureintro; rfl
  iexact H

theorem store_part {Q : PUnit → sProp 𝕄} {kont : PUnit → PT (F := F)} {hx : (b.access r).Stores Finset.univ} {hm : (Finset.univ : Finset r.shape.Idx) = Finset.univ ∨ ∀ a, r.stride a = 1} (w : r.shape.Idx → Elt F e) :
    anyF c (b.slice r hr) ⊢ iprop((ownsF c (b.slice r hr) w -∗ Runs c (kont ⟨⟩) Q) -∗ Runs c (.op (.store b r w Finset.univ hx hm) kont) Q) := by
  simp only [anyF, ownsF, owns]
  iintro ⟨%X, %f, -, H⟩ Hk
  iapply (wp_store 𝒱₀ (c : Thread nD τ) none Set.univ (m := b) (r := r) (Mk := Finset.univ) (S := (b.access r).set) (f := f) (by rw [View.setOn_univ])) $$ H
  iintro H
  iapply Hk
  iexists ((b.access r).write (Elt F) f w Finset.univ)
  isplitr
  · ipureintro; exact View.read_write_univ _ _
  iexact H
end

/-- A load of a slot that is owned as the copies see it. -/
theorem load_slot {Q : PUnit → sProp 𝕄} (s : Fin 2) (X : Vec F S1024x512 .f32) {kont : Vec F S1x1024x512 .f32 → PT (F := F)} {hl : wbM.view.LoadsAt (rSlot s).toLoadRect} :
    ownsF c (slotM s) X ⊢ iprop((ownsF c (slotM s) X -∗ Runs c (kont fun i => X ((Shape.reshapeEquiv squeezes_S1x1024x512_S1024x512.numel_eq).symm i)) Q)
      -∗ Runs c (.op (.load wbM (rSlot s).toLoadRect hl) kont) Q) := by
  simp only [ownsF, owns]
  iintro ⟨%f, %hf, H⟩ Hk
  subst hf
  iapply (wp_load_rect 𝒱₀ (c : Thread nD τ) none Set.univ (m := wbM) (r := rSlot s) (S := (slotM s).view.set) (f := f)
    (by rw [show (slotM s).view.set = (wbM.access (rSlot s)).set from View.set_reshape _ _])) $$ H
  iintro H
  have e : (fun i => (slotM s).view.read (Elt F) f ((Shape.reshapeEquiv squeezes_S1x1024x512_S1024x512.numel_eq).symm i)) = (wbM.access (rSlot s)).read (Elt F) f := by
    funext i
    rw [View.read_apply, View.read_apply]
    have e' : (slotM s).view.emb ((Shape.reshapeEquiv squeezes_S1x1024x512_S1024x512.numel_eq).symm i) = (wbM.access (rSlot s)).emb i := by
      show (wbM.access (rSlot s)).emb (Shape.reshapeEquiv _ ((Shape.reshapeEquiv _).symm i)) = _
      rw [Equiv.apply_symm_apply]
    rw [e']
  rw [e]
  iapply Hk
  iexists f
  isplitr; · ipureintro; rfl
  iexact H

/-! ## The statistics buffer -/

/-- The row of an element of the statistics buffer. -/
def colIx (i : S2x512x16.Idx) : S1x512x1.Idx := fun a => match a with | 0 => (0 : Fin 1) | 1 => i 1 | 2 => (0 : Fin 1)
theorem stats_apply (i : S2x512x16.Idx) (s : Fin 2) (k : Fin 16) (h0 : i 0 = s) (h2 : i 2 = k) : stats m c i = statv m c s k (colIx i) := by
  subst h0 h2; rfl

/-- An element of the statistics buffer that a store of one column reaches, and what it then holds. -/
theorem stat_write (s : Fin 2) (k : Fin 16) (f : (cc0_scratch2 : Ref sig .tc).ty.Contents (Elt F)) (w : Vec F S1x512x1 .f32) (i : S2x512x16.Idx) (h0 : i 0 = s) (h2 : i 2 = k) :
    (msM.access (rStat s k)).write (Elt F) f w Finset.univ i = w (colIx i) := by
  have e : (msM.access (rStat s k)).emb (colIx i) = i := by
    refine Rect.emb_eq_of_coords _ _ _ fun a => ?_
    fin_cases a
    · show (i 0).val = s.val + 1 * 0; rw [h0]; omega
    · show (i 1).val = 0 + 1 * (i 1).val; omega
    · show (i 2).val = k.val + 1 * 0; rw [h2]; omega
  have h := View.write_emb_of_mem (v := msM.access (rStat s k)) f w (Finset.mem_univ (colIx i))
  rw [e] at h; exact h
theorem stat_keep (s : Fin 2) (k : Fin 16) (f : (cc0_scratch2 : Ref sig .tc).ty.Contents (Elt F)) (w : Vec F S1x512x1 .f32) (i : S2x512x16.Idx) (h : i 0 ≠ s ∨ i 2 ≠ k) :
    (msM.access (rStat s k)).write (Elt F) f w Finset.univ i = f i := by
  refine View.write_of_not_mem _ _ _ fun hm => ?_
  obtain ⟨x, hx⟩ := View.exists_of_mem_set_slice (v := msM.view) hm
  have hc : ∀ a, (i a).val = (![s.val, 0, k.val] : Fin 3 → Nat) a + (x a).val := fun a => by
    rw [← hx]; exact ValueKit.view_emb_slice_whole_unit_val cc0_scratch2 _ _ _ x a
  rcases h with h | h
  · refine h (Fin.ext ((hc 0).trans ?_))
    have : (x 0).val < 1 := (x 0).isLt
    show s.val + (x 0).val = _; omega
  · refine h (Fin.ext ((hc 2).trans ?_))
    have : (x 2).val < 1 := (x 2).isLt
    show k.val + (x 2).val = _; omega

/-- The statistics of the first `n` blocks are in the buffer. -/
def statsUpto (n : ℕ) : sProp 𝕄 := iprop(∃ f, ⌜∀ i : S2x512x16.Idx, (i 2).val < n → f i = stats m c i⌝ ∗ pts c cc0_scratch2 fullShare f)

theorem stats_next (k : Fin 16) (f : (cc0_scratch2 : Ref sig .tc).ty.Contents (Elt F)) (hf : ∀ i : S2x512x16.Idx, (i 2).val < k.val → f i = stats m c i) :
    ∀ i : S2x512x16.Idx, (i 2).val < k.val + 1 →
      (msM.access (rStat 1 k)).write (Elt F) ((msM.access (rStat 0 k)).write (Elt F) f (k0_pay6 (wv m c k) (xbv m c)) Finset.univ) (k0_pay7 (wv m c k) (xbv m c)) Finset.univ i = stats m c i := by
  intro i hi
  by_cases h2 : i 2 = k
  · by_cases h0 : i 0 = (0 : Fin 2)
    · rw [stat_keep 1 k _ _ i (Or.inl (by rw [h0]; exact Fin.ne_of_val_ne (by decide))), stat_write 0 k _ _ i h0 h2]
      rw [stats_apply m c i 0 k h0 h2]; rfl
    · have h1 : i 0 = (1 : Fin 2) := by
        have h : (i 0).val < 2 := (i 0).isLt
        have h' : (i 0).val ≠ 0 := fun h => h0 (Fin.ext h)
        exact Fin.ext (show (i 0).val = 1 by omega)
      rw [stat_write 1 k _ _ i h1 h2]
      rw [stats_apply m c i 1 k h1 h2]; rfl
  · rw [stat_keep 1 k _ _ i (Or.inr h2), stat_keep 0 k _ _ i (Or.inr h2)]
    refine hf i ?_
    have : (i 2).val ≠ k.val := fun h => h2 (Fin.ext h)
    omega

/-! ## The steps' computations -/

theorem compA_runs {Q : PUnit → sProp 𝕄} (k : Fin 16) (r : PT (F := F)) :
    iprop(ownsF c (slotM (sl k)) (wblk m c k) ∗ pts c cc0_scratch0 fullShare (xbv m c) ∗ statsUpto m c k.val ∗ anyF c (chM c k)
      ∗ ((ownsF c (slotM (sl k)) (wblk m c k) ∗ pts c cc0_scratch0 fullShare (xbv m c) ∗ statsUpto m c (k.val + 1) ∗ ownsF c (chM c k) (expv m c k)) -∗ Runs c r Q))
      ⊢ Runs c ((compA c k).bind fun _ => r) Q := by
  rw [show ((compA (F := F) c k).bind fun _ => r) =
    .op (.load wbM (rSlot (slotOf k)).toLoadRect (View.loadsAt_vmem h_S1x1024x512)) fun w =>
    .op (.load xbM rX.toLoadRect (View.loadsAt_vmem h_S512x1024)) fun x =>
    .op (.load msM (rStat 0 k).toLoadRect (View.loadsAt_vmem h_S1x512x1)) fun _ =>
    .op (.store msM (rStat 0 k) (k0_pay6 w x) Finset.univ (View.stores_vmem_bits_univ h_S1x512x1 rfl) (.inl rfl)) fun _ =>
    .op (.load msM (rStat 1 k).toLoadRect (View.loadsAt_vmem h_S1x512x1)) fun _ =>
    .op (.store msM (rStat 1 k) (k0_pay7 w x) Finset.univ (View.stores_vmem_bits_univ h_S1x512x1 rfl) (.inl rfl)) fun _ =>
    .op (.load oM (rM c k).toLoadRect (View.loadsAt_vmem h_S512x512)) fun _ =>
    .op (.store oM (rM c k) (k0_pay8 (k0_pay5 w x)) Finset.univ (View.stores_vmem h_S512x512 (oW.storeExact_slice rfl _ (k0_off1_packedbf16 c k)) (fun _ => rfl)) (.inl rfl)) fun _ => r from rfl]
  unfold statsUpto pts
  iintro ⟨Hs, Hx, ⟨%f, %hf, Hm⟩, ⟨%Y, Ho⟩, Hk⟩
  iapply (load_slot c (sl k) (wblk m c k)) $$ Hs; iintro Hs
  iapply (wp_load 𝒱₀ (c : Thread nD τ) none Set.univ (m := xbM) (S := Finset.univ) (Finset.subset_univ _)) $$ Hx; iintro Hx
  rw [show xbM.view.readAt (Elt F) rX.toLoadRect (xbv m c) = xbv m c from Memref.readAt_unit_zero (Elt F) cc0_scratch0 (by funext a; fin_cases a <;> rfl) _ _]
  iapply (wp_load 𝒱₀ (c : Thread nD τ) none Set.univ (m := msM) (S := Finset.univ) (Finset.subset_univ _)) $$ Hm; iintro Hm
  iapply (wp_store 𝒱₀ (c : Thread nD τ) none Set.univ (m := msM) (r := rStat 0 k) (Mk := Finset.univ) (S := Finset.univ) (Finset.subset_univ _)) $$ Hm; iintro Hm
  iapply (wp_load 𝒱₀ (c : Thread nD τ) none Set.univ (m := msM) (S := Finset.univ) (Finset.subset_univ _)) $$ Hm; iintro Hm
  iapply (wp_store 𝒱₀ (c : Thread nD τ) none Set.univ (m := msM) (r := rStat 1 k) (Mk := Finset.univ) (S := Finset.univ) (Finset.subset_univ _)) $$ Hm; iintro Hm
  iapply (load_part c oM (rM c k) (fun _ => rfl) Y) $$ Ho; iintro Ho
  iapply (store_part c oM (rM c k) (fun _ => rfl) (k0_pay8 (k0_pay5 (wv m c k) (xbv m c)))) $$ [Ho]
  · iexists Y; iexact Ho
  iintro Ho
  iapply Hk
  isplitl [Hs]; · iexact Hs
  isplitl [Hx]; · iexact Hx
  isplitl [Hm]
  · iexists _
    isplitr; swap; · iexact Hm
    ipureintro; exact stats_next m c k f hf
  iexact Ho

theorem compC_runs {Q : PUnit → sProp 𝕄} (fac : FVec F S512x16 .bf16) (k : Fin 16) (v : FVec F S512x512 .bf16) (r : PT (F := F)) :
    iprop(ownsF c (chM c k) v ∗ (ownsF c (chM c k) (scaled fac k v) -∗ Runs c r Q)) ⊢ Runs c ((compC c fac k).bind fun _ => r) Q := by
  rw [show ((compC (F := F) c fac k).bind fun _ => r) =
    .op (.load oM (rM c k).toLoadRect (View.loadsAt_vmem h_S512x512)) fun v =>
    .op (.load oM (rM c k).toLoadRect (View.loadsAt_vmem h_S512x512)) fun _ =>
    .op (.store oM (rM c k) (scaled fac k v) Finset.univ (View.stores_vmem h_S512x512 (oW.storeExact_slice rfl _ (k0_off1_packedbf16 c k)) (fun _ => rfl)) (.inl rfl)) fun _ => r from rfl]
  iintro ⟨Ho, Hk⟩
  iapply (load_part c oM (rM c k) (fun _ => rfl) v) $$ Ho; iintro Ho
  iapply (load_part c oM (rM c k) (fun _ => rfl) v) $$ Ho; iintro Ho
  iapply (store_part c oM (rM c k) (fun _ => rfl) (scaled fac k v)) $$ [Ho]
  · iexists v; iexact Ho
  iexact Hk

theorem compD_runs {Q : PUnit → sProp 𝕄} (fac : FVec F S512x16 .bf16) (k : Fin 16) (v : FVec F S512x512 .bf16) (r : PT (F := F)) :
    iprop(ownsF c (chO c k) v ∗ (ownsF c (chO c k) (scaled fac k v) -∗ Runs c r Q)) ⊢ Runs c ((compD c fac k).bind fun _ => r) Q := by
  rw [show ((compD (F := F) c fac k).bind fun _ => r) =
    .op (.load oM (rO c k).toLoadRect (View.loadsAt_vmem h_S512x512)) fun v =>
    .op (.load oM (rO c k).toLoadRect (View.loadsAt_vmem h_S512x512)) fun _ =>
    .op (.store oM (rO c k) (scaled fac k v) Finset.univ (View.stores_vmem h_S512x512 (oW.storeExact_slice rfl _ (k0_off52_packedbf16 c k)) (fun _ => rfl)) (.inl rfl)) fun _ => r from rfl]
  iintro ⟨Ho, Hk⟩
  iapply (load_part c oM (rO c k) (fun _ => rfl) v) $$ Ho; iintro Ho
  iapply (load_part c oM (rO c k) (fun _ => rfl) v) $$ Ho; iintro Ho
  iapply (store_part c oM (rO c k) (fun _ => rfl) (scaled fac k v)) $$ [Ho]
  · iexists v; iexact Ho
  iexact Hk

end Cert.Softmax
-- ==== Proof.BodyEq.lean ====
module
public import proofs.«01_k».proof.Proof.Steps
@[expose] public section
noncomputable section
namespace Cert.Softmax
open Cert.KernelIdeal Cert.KernelIdeal.Gen
open Idealize.ShloMosaic Idealize.ShloMosaic.TcCoe Idealize.SL.Sem
variable {F : FTy → Type} [FloatOps F]

abbrev theBody : PT (F := F) :=
  cc0_body (xM) (Memref.isWhole_whole _) (Memref.whole main_arg1) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9

/-! ## The steps with what follows them

The printed body is nested the other way round: each operation holds the rest of the program. `stepAC … r` is step
`A` followed by `r` in that form. -/

section
universe v
variable {E : Type → Type v} {α β γ : Type}
theorem lift_bind (e : E β) (k : β → Prog E α) : (Prog.lift e >>= k) = .op e k := rfl
theorem op_bind (e : E β) (k : β → Prog E γ) (f : γ → Prog E α) : (Prog.op e k >>= f) = .op e (fun x => k x >>= f) := rfl
theorem ret_bind (a : β) (k : β → Prog E α) : (Prog.ret a >>= k) = k a := rfl
theorem op_bind' {e : E β} {k : β → Prog E γ} {f : γ → Prog E α} {X : Prog E α} (h : .op e (fun x => k x >>= f) = X) : (Prog.op e k >>= f) = X := h
theorem op_eq {e : E β} {K K' : β → Prog E α} (h : ∀ x, K x = K' x) : Prog.op e K = Prog.op e K' := congrArg _ (funext h)
theorem op_eq' {e : E β} {K K' : β → Prog E α} {P : Prog E α} (hP : P = .op e K') (h : ∀ x, K x = K' x) : Prog.op e K = P := hP ▸ congrArg _ (funext h)

variable {c : Prop} [Decidable c] {A : c → Prog E β} {B : ¬ c → Prog E β} {A' : c → Prog E α} {B' : ¬ c → Prog E α} {f : β → Prog E α} {X : Prog E α}
theorem dite_pos (h : c) (e : A' h = X) : dite c A' B' = X := by rw [dif_pos h]; exact e
theorem dite_neg (h : ¬ c) (e : B' h = X) : dite c A' B' = X := by rw [dif_neg h]; exact e
theorem bind_pos' (h : c) (e : X = (A h).bind f) : X = (dite c A B).bind f := by rw [dif_pos h]; exact e
theorem bind_neg' (h : ¬ c) (e : X = (B h).bind f) : X = (dite c A B).bind f := by rw [dif_neg h]; exact e
theorem mbind_pos (h : c) (e : (A h >>= f) = X) : (dite c A B >>= f) = X := by rw [dif_pos h]; exact e
theorem mbind_neg (h : ¬ c) (e : (B h >>= f) = X) : (dite c A B >>= f) = X := by rw [dif_neg h]; exact e
end

def barC (k : Fin 16) (r : PT (F := F)) : PT (F := F) :=
  match k.val with
  | 0 => (semWaitWord barS 2#32).bind fun _ => r
  | _ + 1 => r
def stepAC (d : Dev nD) (k : Fin 16) (r : PT (F := F)) : PT (F := F) :=
  (startNext k).bind fun _ => (waitW k).bind fun _ => (compA d k).bind fun _ => barC k <| (sendY d k).bind fun _ => r
def stepBC (d : Dev nD) (k : Fin 16) (r : PT (F := F)) : PT (F := F) := (stepB d k).bind fun _ => r
def stepCC (d : Dev nD) (fac : FVec F S512x16 .bf16) (k : Fin 16) (r : PT (F := F)) : PT (F := F) :=
  (waitSy d k).bind fun _ => (compC d fac k).bind fun _ => r
def stepDC (d : Dev nD) (fac : FVec F S512x16 .bf16) (k : Fin 16) (r : PT (F := F)) : PT (F := F) :=
  (waitF d k).bind fun _ => (waitFr d k).bind fun _ => (compD d fac k).bind fun _ => r

def loopC (f : Fin 16 → PT (F := F) → PT (F := F)) (r : PT (F := F)) : PT (F := F) :=
  f 0 <| f 1 <| f 2 <| f 3 <| f 4 <| f 5 <| f 6 <| f 7 <| f 8 <| f 9 <| f 10 <| f 11 <| f 12 <| f 13 <| f 14 <| f 15 r

def finishC (d : Dev nD) : PT (F := F) :=
  .op (.waitDma2 (stS 1) msM psM msW.wordExact psW.wordExact) fun _ =>
  .op (.load msM (rStats 0).toLoadRect (View.loadsAt_vmem h_S1x512x16)) fun a =>
  .op (.load msM (rStats 1).toLoadRect (View.loadsAt_vmem h_S1x512x16)) fun b =>
  .op (.load psM (rStats 0).toLoadRect (View.loadsAt_vmem h_S1x512x16)) fun p =>
  .op (.load psM (rStats 1).toLoadRect (View.loadsAt_vmem h_S1x512x16)) fun q =>
  loopC (stepCC d (facM a b p q)) <| loopC (stepDC d (facO a b p q)) <|
  .op (.waitDma2 (stS 0) psM msM psW.wordExact msW.wordExact) fun _ => .ret ⟨⟩

def myBodyC (d : Dev nD) : PT (F := F) :=
  (prologue d).bind fun _ => (startW 0).bind fun _ => loopC (stepAC d) <| (sendSt d).bind fun _ => loopC (stepBC d) <| finishC d

theorem condNE : ∀ (d : Dev nD), (condE d 0 = 1#1 ∧ condE d 1 ≠ 1#1 ∧ condN d 0 ≠ 1#1 ∧ condN d 1 = 1#1) ∨ (condE d 0 ≠ 1#1 ∧ condE d 1 = 1#1 ∧ condN d 0 = 1#1 ∧ condN d 1 ≠ 1#1) := by decide

set_option maxRecDepth 1000000 in
set_option maxHeartbeats 400000000 in
/-- The printed body asks for the device and then runs the loops. -/
theorem body_eqC : theBody (F := F) = .op .deviceId myBodyC := by
  rw [theBody, cc0_body_eq_skeleton, cc0_body_skel, k0_part39_eq_skeleton, k0_part39_skel]
  simp only [k0_part1_eq_skeleton, k0_part1_skel, bind_assoc, pure_bind, lift_bind, op_bind, ret_bind, semSignalWord, semWaitWord]
  refine op_eq fun d => ?_
  rcases condNE d with ⟨h1, h2, h3, h4⟩ | ⟨h2, h1, h4, h3⟩
  all_goals
    beta_reduce
    repeat first
      | (with_reducible apply op_eq'
         case hP => exact rfl
         intro _
         beta_reduce)
      | (with_reducible apply mbind_pos
         case h => exact h1
         refine bind_pos' h1 ?_)
      | (with_reducible apply mbind_neg
         case h => exact h2
         refine bind_neg' h2 ?_)
      | with_reducible refine op_bind' ?_
      | with_reducible refine (ret_bind _ _).trans ?_
      | with_reducible refine (pure_bind _ _).trans ?_
      | (with_reducible apply mbind_pos
         case h => exact h4
         refine bind_pos' h4 ?_)
      | (with_reducible apply mbind_neg
         case h => exact h3
         refine bind_neg' h3 ?_)
      | (with_reducible apply dite_pos
         case h => exact h4
         refine bind_pos' h4 ?_)
      | (with_reducible apply dite_neg
         case h => exact h3
         refine bind_neg' h3 ?_)
      | simp only [k0_part2_eq_skeleton, k0_part2_skel, bind_assoc, pure_bind, lift_bind, op_bind, ret_bind, semSignalWord, semWaitWord]
      | simp only [k0_part3_eq_skeleton, k0_part3_skel, bind_assoc, pure_bind, lift_bind, op_bind, ret_bind, semSignalWord, semWaitWord]
      | simp only [k0_part4_eq_skeleton, k0_part4_skel, bind_assoc, pure_bind, lift_bind, op_bind, ret_bind, semSignalWord, semWaitWord]
      | simp only [k0_part5_eq_skeleton, k0_part5_skel, bind_assoc, pure_bind, lift_bind, op_bind, ret_bind, semSignalWord, semWaitWord]
      | simp only [k0_part6_eq_skeleton, k0_part6_skel, bind_assoc, pure_bind, lift_bind, op_bind, ret_bind, semSignalWord, semWaitWord]
      | simp only [k0_part7_eq_skeleton, k0_part7_skel, bind_assoc, pure_bind, lift_bind, op_bind, ret_bind, semSignalWord, semWaitWord]
      | simp only [k0_part8_eq_skeleton, k0_part8_skel, bind_assoc, pure_bind, lift_bind, op_bind, ret_bind, semSignalWord, semWaitWord]
      | simp only [k0_part9_eq_skeleton, k0_part9_skel, bind_assoc, pure_bind, lift_bind, op_bind, ret_bind, semSignalWord, semWaitWord]
      | simp only [k0_part10_eq_skeleton, k0_part10_skel, bind_assoc, pure_bind, lift_bind, op_bind, ret_bind, semSignalWord, semWaitWord]
      | simp only [k0_part11_eq_skeleton, k0_part11_skel, bind_assoc, pure_bind, lift_bind, op_bind, ret_bind, semSignalWord, semWaitWord]
      | simp only [k0_part12_eq_skeleton, k0_part12_skel, bind_assoc, pure_bind, lift_bind, op_bind, ret_bind, semSignalWord, semWaitWord]
      | simp only [k0_part13_eq_skeleton, k0_part13_skel, bind_assoc, pure_bind, lift_bind, op_bind, ret_bind, semSignalWord, semWaitWord]
      | simp only [k0_part14_eq_skeleton, k0_part14_skel, bind_assoc, pure_bind, lift_bind, op_bind, ret_bind, semSignalWord, semWaitWord]
      | simp only [k0_part15_eq_skeleton, k0_part15_skel, bind_assoc, pure_bind, lift_bind, op_bind, ret_bind, semSignalWord, semWaitWord]
      | simp only [k0_part16_eq_skeleton, k0_part16_skel, bind_assoc, pure_bind, lift_bind, op_bind, ret_bind, semSignalWord, semWaitWord]
      | simp only [k0_part17_eq_skeleton, k0_part17_skel, bind_assoc, pure_bind, lift_bind, op_bind, ret_bind, semSignalWord, semWaitWord]
      | simp only [k0_part18_eq_skeleton, k0_part18_skel, bind_assoc, pure_bind, lift_bind, op_bind, ret_bind, semSignalWord, semWaitWord]
      | simp only [k0_part19_eq_skeleton, k0_part19_skel, bind_assoc, pure_bind, lift_bind, op_bind, ret_bind, semSignalWord, semWaitWord]
      | simp only [k0_part20_eq_skeleton, k0_part20_skel, bind_assoc, pure_bind, lift_bind, op_bind, ret_bind, semSignalWord, semWaitWord]
      | simp only [k0_part21_eq_skeleton, k0_part21_skel, bind_assoc, pure_bind, lift_bind, op_bind, ret_bind, semSignalWord, semWaitWord]
      | simp only [k0_part22_eq_skeleton, k0_part22_skel, bind_assoc, pure_bind, lift_bind, op_bind, ret_bind, semSignalWord, semWaitWord]
      | simp only [k0_part23_eq_skeleton, k0_part23_skel, bind_assoc, pure_bind, lift_bind, op_bind, ret_bind, semSignalWord, semWaitWord]
      | simp only [k0_part24_eq_skeleton, k0_part24_skel, bind_assoc, pure_bind, lift_bind, op_bind, ret_bind, semSignalWord, semWaitWord]
      | simp only [k0_part25_eq_skeleton, k0_part25_skel, bind_assoc, pure_bind, lift_bind, op_bind, ret_bind, semSignalWord, semWaitWord]
      | simp only [k0_part26_eq_skeleton, k0_part26_skel, bind_assoc, pure_bind, lift_bind, op_bind, ret_bind, semSignalWord, semWaitWord]
      | simp only [k0_part27_eq_skeleton, k0_part27_skel, bind_assoc, pure_bind, lift_bind, op_bind, ret_bind, semSignalWord, semWaitWord]
      | simp only [k0_part28_eq_skeleton, k0_part28_skel, bind_assoc, pure_bind, lift_bind, op_bind, ret_bind, semSignalWord, semWaitWord]
      | simp only [k0_part29_eq_skeleton, k0_part29_skel, bind_assoc, pure_bind, lift_bind, op_bind, ret_bind, semSignalWord, semWaitWord]
      | simp only [k0_part30_eq_skeleton, k0_part30_skel, bind_assoc, pure_bind, lift_bind, op_bind, ret_bind, semSignalWord, semWaitWord]
      | simp only [k0_part31_eq_skeleton, k0_part31_skel, bind_assoc, pure_bind, lift_bind, op_bind, ret_bind, semSignalWord, semWaitWord]
      | simp only [k0_part32_eq_skeleton, k0_part32_skel, bind_assoc, pure_bind, lift_bind, op_bind, ret_bind, semSignalWord, semWaitWord]
      | simp only [k0_part33_eq_skeleton, k0_part33_skel, bind_assoc, pure_bind, lift_bind, op_bind, ret_bind, semSignalWord, semWaitWord]
      | simp only [k0_part34_eq_skeleton, k0_part34_skel, bind_assoc, pure_bind, lift_bind, op_bind, ret_bind, semSignalWord, semWaitWord]
      | simp only [k0_part35_eq_skeleton, k0_part35_skel, bind_assoc, pure_bind, lift_bind, op_bind, ret_bind, semSignalWord, semWaitWord]
      | simp only [k0_part36_eq_skeleton, k0_part36_skel, bind_assoc, pure_bind, lift_bind, op_bind, ret_bind, semSignalWord, semWaitWord]
      | simp only [k0_part37_eq_skeleton, k0_part37_skel, bind_assoc, pure_bind, lift_bind, op_bind, ret_bind, semSignalWord, semWaitWord]
      | simp only [k0_part38_eq_skeleton, k0_part38_skel, bind_assoc, pure_bind, lift_bind, op_bind, ret_bind, semSignalWord, semWaitWord]
      | exact rfl

end Cert.Softmax
-- ==== Proof.Phases.lean ====
/- The phases of the body: each is a loop over the sixteen chunks, with what the device holds between two steps. -/
module

public import proofs.«01_k».proof.Proof.Comp
public import proofs.«01_k».proof.Proof.BodyEq

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Loops -/

/-- The chunks of `l` are those from `n` on, in order. -/
def From : ℕ → List (Fin 16) → Prop
  | _, [] => True
  | n, a :: l => a.val = n ∧ a ∉ l ∧ From (n + 1) l

theorem bigSep_cons {i : Fin 16} {s : Finset (Fin 16)} (h : i ∉ s) (P : Fin 16 → sProp 𝕄) : bigSep (insert i s) P = iprop(P i ∗ bigSep s P) := bigSep_insert h

theorem run_list {Q : PUnit → sProp 𝕄} (f : Fin 16 → PT (F := F) → PT (F := F)) (I : ℕ → sProp 𝕄) (P R : Fin 16 → sProp 𝕄)
    (l : List (Fin 16)) (step : ∀ k ∈ l, ∀ r : PT (F := F), iprop(ctx m K ∗ I k.val ∗ P k ∗ ((I (k.val + 1) ∗ R k) -∗ Runs c r Q)) ⊢ Runs c (f k r) Q) (r : PT (F := F)) :
    ∀ n, From n l → iprop(ctx m K ∗ I n ∗ bigSep l.toFinset P ∗ ((I (n + l.length) ∗ bigSep l.toFinset R) -∗ Runs c r Q)) ⊢ Runs c (l.foldr f r) Q := by
  induction l with
  | nil =>
    intro n _
    show iprop(ctx m K ∗ I n ∗ emp ∗ ((I n ∗ emp) -∗ Runs c r Q)) ⊢ Runs c r Q
    iintro ⟨-, HI, -, Hk⟩
    iapply Hk
    isplitl [HI]; · iexact HI
    iempintro
  | cons a l ih =>
    intro n h
    obtain ⟨rfl, ha, hl⟩ := h
    have hm : a ∉ l.toFinset := fun h => ha (List.mem_toFinset.mp h)
    rw [List.toFinset_cons, bigSep_cons hm, bigSep_cons hm, List.length_cons, show a.val + (l.length + 1) = a.val + 1 + l.length by omega]
    show _ ⊢ Runs c (f a (l.foldr f r)) Q
    iintro ⟨#HR, HI, ⟨Ha, Hl⟩, Hk⟩
    iapply (step a List.mem_cons_self (l.foldr f r))
    isplitr; · iexact HR
    isplitl [HI]; · iexact HI
    isplitl [Ha]; · iexact Ha
    iintro ⟨HI, HRa⟩
    iapply (ih (fun k hk => step k (List.mem_cons_of_mem _ hk)) (a.val + 1) hl)
    isplitr; · iexact HR
    isplitl [HI]; · iexact HI
    isplitl [Hl]; · iexact Hl
    iintro ⟨HI, HRl⟩
    iapply Hk
    isplitl [HI]; · iexact HI
    isplitl [HRa]; · iexact HRa
    iexact HRl

abbrev l16 : List (Fin 16) := [0, 1, 2, 3, 4, 5, 6, 7, 8, 9, 10, 11, 12, 13, 14, 15]
abbrev l15 : List (Fin 16) := [1, 2, 3, 4, 5, 6, 7, 8, 9, 10, 11, 12, 13, 14, 15]
theorem from16 : From 0 l16 := by repeat' first | exact trivial | refine ⟨rfl, by decide, ?_⟩
theorem from15 : From 1 l15 := by repeat' first | exact trivial | refine ⟨rfl, by decide, ?_⟩
theorem univ16 : (l16).toFinset = Finset.univ := by decide
theorem split16 (P : Fin 16 → sProp 𝕄) : bigSep Finset.univ P = iprop(P 0 ∗ bigSep (l15).toFinset P) := by
  rw [show (Finset.univ : Finset (Fin 16)) = insert 0 (l15).toFinset by decide, bigSep_cons (by decide)]

theorem run_loop {Q : PUnit → sProp 𝕄} (f : Fin 16 → PT (F := F) → PT (F := F)) (I : ℕ → sProp 𝕄) (P R : Fin 16 → sProp 𝕄)
    (step : ∀ (k : Fin 16) (r : PT (F := F)), iprop(ctx m K ∗ I k.val ∗ P k ∗ ((I (k.val + 1) ∗ R k) -∗ Runs c r Q)) ⊢ Runs c (f k r) Q) (r : PT (F := F)) :
    iprop(ctx m K ∗ I 0 ∗ bigSep Finset.univ P ∗ ((I 16 ∗ bigSep Finset.univ R) -∗ Runs c r Q)) ⊢ Runs c (loopC f r) Q := by
  have h := run_list m K c f I P R l16 (fun k _ => step k) r 0 from16
  rw [univ16] at h
  exact h

/-! ## Phase A: the exponentials, sent along `y` -/

/-- The slots of the weights before step `n`: block `n` on its way, the other slot free. -/
def slots (n : ℕ) : sProp 𝕄 :=
  iprop((if n < 16 then cred (tallyAt (cell c (kW ⟨n % 2, Nat.mod_lt _ (by decide)⟩)) () Nw) else anyF c (slotM ⟨n % 2, Nat.mod_lt _ (by decide)⟩))
    ∗ at₀ c (kW ⟨n % 2, Nat.mod_lt _ (by decide)⟩) (n / 2)
    ∗ anyF c (slotM ⟨(n + 1) % 2, Nat.mod_lt _ (by decide)⟩)
    ∗ at₀ c (kW ⟨(n + 1) % 2, Nat.mod_lt _ (by decide)⟩) ((n + 1) / 2)
    ∗ reached ER (cell c (kW ⟨(n + 1) % 2, Nat.mod_lt _ (by decide)⟩)) ((n + 1) / 2))

def nextTok (k : Fin 16) : sProp 𝕄 := if h : k.val + 1 < 16 then wTok m c ⟨k.val + 1, h⟩ else iprop(emp)

def invA (n : ℕ) : sProp 𝕄 := iprop(ow c (owA c n) ∗ pts c cc0_scratch0 fullShare (xbv m c) ∗ statsUpto m c n ∗ slots c n)
def frontP (k : Fin 16) : sProp 𝕄 := iprop(nextTok m c k ∗ anyF c (chM c k))
def sendP (k : Fin 16) : sProp 𝕄 :=
  iprop((if par c k then anyF (ynD c) (chM c k) else iprop(emp)) ∗ tok c (kQ 0 k) 0 ∗ tok (ynD c) (kQ 2 k) 0)
/-- A chunk of the own half once it is computed: sent, or kept. -/
def sent (k : Fin 16) : sProp 𝕄 :=
  if par c k then cred (tallyAt (cell c (kQ 0 k)) () No) else ownsF c (chM c k) (expv m c k)

theorem slot_two (n : ℕ) (h : (n + 2) % 2 < 2) : (⟨(n + 2) % 2, h⟩ : Fin 2) = ⟨n % 2, Nat.mod_lt _ (by decide)⟩ := Fin.ext (by show (n + 2) % 2 = n % 2; omega)

theorem startNext_runs {Q : PUnit → sProp 𝕄} (k : Fin 16) (r : PT (F := F)) :
    iprop(ctx m K ∗ anyF c (slotM ⟨(k.val + 1) % 2, Nat.mod_lt _ (by decide)⟩) ∗ nextTok m c k
      ∗ reached ER (cell c (kW ⟨(k.val + 1) % 2, Nat.mod_lt _ (by decide)⟩)) ((k.val + 1) / 2)
      ∗ ((if k.val + 1 < 16 then cred (tallyAt (cell c (kW ⟨(k.val + 1) % 2, Nat.mod_lt _ (by decide)⟩)) () Nw) else anyF c (slotM ⟨(k.val + 1) % 2, Nat.mod_lt _ (by decide)⟩)) -∗ Runs c r Q))
      ⊢ Runs c ((startNext k).bind fun _ => r) Q := by
  unfold startNext nextTok
  by_cases h : k.val + 1 < 16
  · rw [dif_pos h, dif_pos h, if_pos h]
    exact startW_runs m K c ⟨k.val + 1, h⟩ r
  · rw [dif_neg h, dif_neg h, if_neg h]
    show _ ⊢ Runs c r Q
    iintro ⟨-, Hs, -, -, Hk⟩
    iapply Hk; iexact Hs

theorem front_runs {Q : PUnit → sProp 𝕄} (k : Fin 16) (r : PT (F := F)) :
    iprop(ctx m K ∗ invA m c k.val ∗ frontP m c k
      ∗ ((ow c (owA c k.val) ∗ pts c cc0_scratch0 fullShare (xbv m c) ∗ statsUpto m c (k.val + 1) ∗ slots c (k.val + 1)
          ∗ ownsF c (chM c k) (expv m c k) ∗ ownsF c (wBlk k) (wblk m c k)) -∗ Runs c r Q))
      ⊢ Runs c ((startNext k).bind fun _ => (waitW k).bind fun _ => (compA c k).bind fun _ => r) Q := by
  unfold invA frontP
  rw [slots, if_pos k.isLt]
  iintro ⟨#HR, ⟨Ho, Hx, Hst, Hc, Hat, Hsl, Hat', Hr⟩, ⟨Hn, Hch⟩, Hk⟩
  iapply (startNext_runs m K c k)
  isplitr; · iexact HR
  isplitl [Hsl]; · iexact Hsl
  isplitl [Hn]; · iexact Hn
  isplitl [Hr]; · iexact Hr
  iintro Hnew
  iapply (waitW_runs m K c k _ (owA c k.val) (above_le (by decide) (above_owA c k.val)))
  isplitr; · iexact HR
  isplitl [Hc]; · iexact Hc
  isplitl [Ho]; · iexact Ho
  isplitl [Hat]; · iexact Hat
  iintro ⟨Ho, Hat, Hr, Hs, Hw⟩
  iapply (compA_runs m c k r)
  isplitl [Hs]; · iexact Hs
  isplitl [Hx]; · iexact Hx
  isplitl [Hst]; · iexact Hst
  isplitl [Hch]; · iexact Hch
  iintro ⟨Hs, Hx, Hst, Hch⟩
  iapply Hk
  isplitl [Ho]; · iexact Ho
  isplitl [Hx]; · iexact Hx
  isplitl [Hst]; · iexact Hst
  isplitr [Hch Hw]
  · unfold slots
    rw [slot_two, show (k.val + 1 + 1) / 2 = k.val / 2 + 1 by omega]
    isplitl [Hnew]; · iexact Hnew
    isplitl [Hat']; · iexact Hat'
    isplitl [Hs]; · iexists _; iexact Hs
    isplitl [Hat]; · iexact Hat
    iexact Hr
  isplitl [Hch]; · iexact Hch
  iexact Hw

theorem sendY_runs {Q : PUnit → sProp 𝕄} (k : Fin 16) (r : PT (F := F)) :
    iprop(ctx m K ∗ ow c (owA c k.val) ∗ ownsF c (chM c k) (expv m c k) ∗ sendP c k
      ∗ ((ow c (owA c (k.val + 1)) ∗ sent m c k) -∗ Runs c r Q)) ⊢ Runs c ((sendY c k).bind fun _ => r) Q := by
  unfold sendP sent sendY
  rw [show owA c k.val = owA c (k.val + 1) + (if par c k = true then tallyAt (cell (ynD c) (kQ 2 k)) () No else 0) by
    unfold owA; rw [owY_step]; exact (add_assoc _ _ _).symm]
  by_cases h : par c k = true
  · rw [dif_pos ((condE_iff c k).mpr h), if_pos h, if_pos h, if_pos h]
    iintro ⟨#HR, Ho, Hch, ⟨Hd, Ht, Ht'⟩, Hk⟩
    iapply (send_Q m K c (ynD c) (chM c k) 0 2 k h ((par_yn c k).trans h) (expv m c k) (creditM c k) rfl
      (by show ownsF (ynD c) (chO (ynD c) k) (expo m (ynD c) k) = _
          unfold expo; rw [origin_yn c k h, chO_yn]) (owA c (k.val + 1))) $$ [Hch Hd Ho Ht Ht']
    · isplitr; · iexact HR
      isplitl [Hch]; · iexact Hch
      isplitl [Hd]; · iexact Hd
      isplitl [Ho]; · iexact Ho
      isplitl [Ht]; · iexact Ht
      iexact Ht'
    iintro ⟨Hc, Ho⟩
    iapply Hk
    isplitl [Ho]; · iexact Ho
    iexact Hc
  · rw [dif_neg (fun hh => h ((condE_iff c k).mp hh)), if_neg h, if_neg h, if_neg h, add_zero]
    show _ ⊢ Runs c r Q
    iintro ⟨-, Ho, Hch, -, Hk⟩
    iapply Hk
    isplitl [Ho]; · iexact Ho
    iexact Hch

theorem stepA_runs {Q : PUnit → sProp 𝕄} (k : Fin 16) (hk : k ∈ l15) (r : PT (F := F)) :
    iprop(ctx m K ∗ invA m c k.val ∗ (frontP m c k ∗ sendP c k) ∗ ((invA m c (k.val + 1) ∗ (sent m c k ∗ ownsF c (wBlk k) (wblk m c k))) -∗ Runs c r Q))
      ⊢ Runs c (stepAC c k r) Q := by
  have hb : ∀ r : PT (F := F), barC k r = r := fun r => by
    have : k.val ≠ 0 := by revert k; decide
    unfold barC
    obtain ⟨v, hv⟩ := k
    cases v with
    | zero => exact absurd rfl this
    | succ v => rfl
  unfold stepAC
  rw [hb]
  iintro ⟨#HR, HI, ⟨Hf, Hs⟩, Hk⟩
  iapply (front_runs m K c k)
  isplitr; · iexact HR
  isplitl [HI]; · iexact HI
  isplitl [Hf]; · iexact Hf
  iintro ⟨Ho, Hx, Hst, Hsl, Hch, Hw⟩
  iapply (sendY_runs m K c k)
  isplitr; · iexact HR
  isplitl [Ho]; · iexact Ho
  isplitl [Hch]; · iexact Hch
  isplitl [Hs]; · iexact Hs
  iintro ⟨Ho, Hsent⟩
  iapply Hk
  unfold invA
  isplitl [Ho Hx Hst Hsl]
  · isplitl [Ho]; · iexact Ho
    isplitl [Hx]; · iexact Hx
    isplitl [Hst]; · iexact Hst
    iexact Hsl
  isplitl [Hsent]; · iexact Hsent
  iexact Hw

/-- What the wait at the barrier hands over. -/
def fromBar : sProp 𝕄 := iprop(at₀ c kBar 1 ∗ barX c ∗ barY c)

theorem barWait_runs {Q : PUnit → sProp 𝕄} (r : PT (F := F)) :
    iprop(ctx m K ∗ cred (tallyAt (cell c kBar) () 2) ∗ ow c (owA c 0) ∗ at₀ c kBar 0
      ∗ ((ow c (owA c 0) ∗ fromBar c) -∗ Runs c r Q)) ⊢ Runs c (barC 0 r) Q := by
  rw [show barC (F := F) 0 r = (semWaitWord barS 2#32).bind fun _ => r from rfl]
  unfold semWaitWord ctx ow
  show _ ⊢ Runs c (.op _ fun _ => r) Q
  iintro ⟨⟨#HR, #HL⟩, Hc, ⟨%W, Ho⟩, Hat, Hk⟩
  have he : 0 + 2 = (sched (F := F) m).expect (cell c kBar) 0 := (expect_bar m c).symm
  iapply (Rounds.wp_wait_rest_token 𝒱₀ ER (sched m) (c : Thread nD τ) none (κ := K (c, kBar)) (wpE_semWait_eq 𝒱₀ (c : Thread nD τ) none Set.univ) (Set.mem_univ _) () (O := owA c 0) (W := W) (R := 0) (m := 0) (T := ∅) he) $$ [Hc Ho Hat]
  · isplitr; · iapply (inv_at m K c kBar); iexact HR
    isplitl [Hc]; · iexact Hc
    isplitl [Ho]; · iexact Ho
    isplitr; · iapply (mayWait_cell c kBar (owA c 0) 1 (le_refl _) (above_owA c 0)); iexact HL
    iexact Hat
  iintro ⟨Ho, Hat, -, Hp⟩
  ihave Hp := (Entails.of_eq (show bigSep ((sched (F := F) m).duties ((c : Thread nD τ), .reg barS) 0 \ ∅) (fun d => (sched (F := F) m).payload ((c : Thread nD τ), .reg barS) 0 d) = _ from rest_bar m c)) $$ Hp
  iapply Hk
  isplitl [Ho]; · iexists _; iexact Ho
  unfold fromBar
  isplitl [Hat]; · iexact Hat
  iexact Hp

end Cert.Softmax
-- ==== Proof.Later.lean ====
/- The prologue, the statistics, and the phases after the exponentials. -/
module

public import proofs.«01_k».proof.Proof.Phases

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The prologue -/

theorem barX_xn : (bigSep Finset.univ fun k : Fin 16 => if par c k then iprop(emp) else anyF c (chO c k)) = barX (F := F) (xnD c) := by
  unfold barX
  refine bigSep_congr fun k _ => ?_
  rw [par_xn, xn_xn, chO_xn]
  cases par c k <;> rfl
theorem barY_yn : iprop((bigSep Finset.univ fun k : Fin 16 => if par c k then anyF c (chO c k) else iprop(emp)) ∗ ∃ f, pts c cc0_scratch3 fullShare f) = barY (F := F) (ynD c) := by
  unfold barY
  rw [yn_yn]
  congr 1
  refine bigSep_congr fun k _ => ?_
  rw [par_yn, chM_yn]

theorem signal_runs {Q : PUnit → sProp 𝕄} (n : Dev nD) (d : Bool) (O : CellTallies nD τ sig Unit) (r : PT (F := F)) :
    iprop(ctx m K ∗ ow c (O + tallyAt (cell n kBar) () 1) ∗ dutyTok ER (cell n kBar) 0 d ∗ (if d then barY n else barX n) ∗ (ow c O -∗ Runs c r Q))
      ⊢ Runs c ((semSignalWord n barS 1#32).bind fun _ => r) Q := by
  unfold semSignalWord ctx ow
  show _ ⊢ Runs c (.op _ fun _ => r) Q
  iintro ⟨⟨#HR, -⟩, ⟨%W, Ho⟩, Ht, Hp, Hk⟩
  have hd : d ∈ (sched (F := F) m).duties (cell n kBar) 0 := by
    rw [duties_eq, show dut n kBar 0 = Finset.univ from rfl]; exact Finset.mem_univ _
  iapply (Rounds.wp_signal 𝒱₀ ER (sched m) (c : Thread nD τ) none (dst := (n : Thread nD τ)) (κ := K (n, kBar)) (d := d) hd
    ((amount_eq m n kBar 0 d).trans (by decide)) () O rfl) $$ [Ho Ht Hp]
  · isplitr; · iapply (inv_at m K n kBar); iexact HR
    isplitl [Ho]; · iexact Ho
    isplitl [Ht]; · iexact Ht
    isplitl [Hp]
    · iapply (show (if d = true then barY n else barX n) ⊢ (sched (F := F) m).payload ((n : Thread nD τ), .reg barS) 0 d from to_pay m (k := kBar) (c := n) (r := 0) (d := d) (Entails.refl _)); iexact Hp
    iapply (reached_at m K n kBar); iexact HR
  iintro Ho
  iapply Hk
  iexists W; iexact Ho

theorem prologue_runs {Q : PUnit → sProp 𝕄} (r : PT (F := F)) :
    iprop(ctx m K ∗ ow c (ow₀ c) ∗ dutyTok ER (cell (xnD c) kBar) 0 false ∗ dutyTok ER (cell (ynD c) kBar) 0 true ∗ barX (xnD c) ∗ barY (ynD c)
      ∗ pts c cc0_stg0_0 fullShare (xstg m c) ∗ (∃ f, pts c cc0_scratch0 fullShare f)
      ∗ ((ow c (owA c 0) ∗ pts c cc0_stg0_0 fullShare (xstg m c) ∗ pts c cc0_scratch0 fullShare (xbv m c)) -∗ Runs c r Q))
      ⊢ Runs c ((prologue c).bind fun _ => r) Q := by
  rw [show ((prologue (F := F) c).bind fun _ => r) = (semSignalWord (xnD c) barS 1#32).bind fun _ => (semSignalWord (ynD c) barS 1#32).bind fun _ =>
    (.op (.load xM rX.toLoadRect (View.loadsAt_vmem h_S512x1024)) fun x =>
    .op (.load xbM rX.toLoadRect (View.loadsAt_vmem h_S512x1024)) fun _ =>
    .op (.store xbM rX (k0_pay2 x) Finset.univ (View.stores_vmem h_S512x1024 (xbW.storeExact_slice rfl _ packedbf16_S512x1024_S512x1024_0_0) (fun _ => rfl)) (.inl rfl)) fun _ => r : PT (F := F)) from rfl]
  iintro ⟨#HR, Ho, Ht, Ht', HX, HY, Hx, ⟨%f, Hb⟩, Hk⟩
  iapply (signal_runs m K c (xnD c) false (owB c))
  isplitr; · iexact HR
  isplitl [Ho]; · iexact Ho
  isplitl [Ht]; · iexact Ht
  isplitl [HX]; · rw [if_neg Bool.false_ne_true]; iexact HX
  iintro Ho
  iapply (signal_runs m K c (ynD c) true (owA c 0))
  isplitr; · iexact HR
  isplitl [Ho]; · iexact Ho
  isplitl [Ht']; · iexact Ht'
  isplitl [HY]; · rw [if_pos rfl]; iexact HY
  iintro Ho
  unfold pts
  iapply (wp_load 𝒱₀ (c : Thread nD τ) none Set.univ (m := xM) (S := Finset.univ) (Finset.subset_univ _)) $$ Hx; iintro Hx
  rw [show xM.view.readAt (Elt F) rX.toLoadRect (xstg m c) = xstg m c from Memref.readAt_unit_zero (Elt F) cc0_stg0_0 (by funext a; fin_cases a <;> rfl) _ _]
  iapply (wp_load 𝒱₀ (c : Thread nD τ) none Set.univ (m := xbM) (S := Finset.univ) (Finset.subset_univ _)) $$ Hb; iintro Hb
  iapply (wp_store 𝒱₀ (c : Thread nD τ) none Set.univ (m := xbM) (r := rX) (Mk := Finset.univ) (S := Finset.univ) (Finset.subset_univ _)) $$ Hb; iintro Hb
  rw [show (xbM.access rX).write (Elt F) f (k0_pay2 (xstg m c)) Finset.univ = xbv m c from Memref.write_access_unit_zero_univ (Elt F) cc0_scratch0 (by funext a; fin_cases a <;> rfl) _ _ _]
  iapply Hk
  isplitl [Ho]; · iexact Ho
  isplitl [Hx]; · iexact Hx
  iexact Hb

/-! ## The statistics -/

theorem dut_St (s : Fin 2) : dut c (kSt s) 0 = {false} := by show (if (0 : ℕ) = 0 then ({false} : Finset Bool) else ∅) = _; exact if_pos rfl

theorem sendSt_runs {Q : PUnit → sProp 𝕄} (r : PT (F := F)) :
    iprop(ctx m K ∗ ow c (owA c 16) ∗ statsUpto m c 16 ∗ (∃ f, pts (ynD c) cc0_scratch3 fullShare f) ∗ tok c (kSt 0) 0 ∗ tok (ynD c) (kSt 1) 0
      ∗ ((ow c (owX c 0) ∗ pts c cc0_scratch2 fullShare.left (stats m c) ∗ cred (tallyAt (cell c (kSt 0)) () Ns)) -∗ Runs c r Q))
      ⊢ Runs c ((sendSt c).bind fun _ => r) Q := by
  rw [show ((sendSt (F := F) c).bind fun _ => r) = .op (.enqueueDma msM (.remote (Dev.tc (ynD c)) psM (.dma (stS 0))) (.dma (stS 1)) msW.wordExact psW.wordExact ⟨⟨rfl, Or.inl rfl⟩, trivial⟩) fun _ => r from rfl]
  unfold ctx ow statsUpto pts
  rw [show owA c 16 = owX c 0 + tallyAt (cell (ynD c) (kSt 1)) () Ns by unfold owA owSt; rw [owY_end, add_zero]]
  iintro ⟨⟨#HR, -⟩, ⟨%W, Ho⟩, ⟨%f, %hf, Hs⟩, ⟨%fd, Hd⟩, Ht, Ht', Hk⟩
  have e : f = stats m c := funext fun i => hf i (i 2).isLt
  subst e
  ihave Hs := (pointsTo_share (ℓ := (c : Thread nD τ).loc cc0_scratch2) (I := Finset.univ) (f := stats m c) (PosShare.mem_left_op_right fullShare)).1 $$ Hs
  icases Hs with ⟨Hl, Hr⟩
  iapply (Rounds.wp_send_pointsTo 𝒱₀ ER (sched m) (c : Thread nD τ) none (c' := (ynD c : Thread nD τ)) (src := msM) (dst := psM) (sS := csem (kSt 0)) (sem := csem (kSt 1)) (κ₁ := K (c, kSt 0)) (κ₂ := K (ynD c, kSt 1))
      (r₁ := 0) (r₂ := 0) (d₁ := false) (d₂ := false) (fd := fd) (fs := stats m c) (q := fullShare.right)
      (mem_duty m (dut_St c 0)) (mem_duty m (dut_St (ynD c) 1)) () () Ns creditP (amount_eq m c (kSt 0) _ _) (amount_eq m (ynD c) (kSt 1) _ _) (owX c 0) rfl (W := W)
      (to_pay m (k := kSt 0) ?p1) (to_pay m (k := kSt 1) ?p2)) $$ [Hr Hd Ho Ht Ht']
  case p1 =>
    show _ ⊢ paySt m c 0
    unfold paySt pts
    rw [if_pos rfl, show (msM).view.set = Finset.univ from View.set_whole _]
  case p2 =>
    show _ ⊢ paySt m (ynD c) 1
    unfold paySt pts
    rw [if_neg (by decide), show (psM).view.set = Finset.univ from View.set_whole _, yn_yn]
    refine Entails.of_eq (congrArg _ ?_)
    exact View.write_whole_univ _ _ _
  · isplitr; · iapply (inv_at m K c (kSt 0)); iexact HR
    isplitr; · iapply (inv_at m K (ynD c) (kSt 1)); iexact HR
    isplitl [Hr]
    · rw [show (msM).view.set = Finset.univ from View.set_whole _]; iexact Hr
    isplitl [Hd]
    · rw [show (psM).view.set = Finset.univ from View.set_whole _]; iexact Hd
    isplitl [Ho]; · iexact Ho
    isplitl [Ht]; · iexact Ht
    isplitr; · iapply (reached_at m K c (kSt 0)); iexact HR
    isplitl [Ht']; · iexact Ht'
    iapply (reached_at m K (ynD c) (kSt 1)); iexact HR
  iintro ⟨Hc, Ho⟩
  iapply Hk
  isplitl [Ho]; · iexists W; iexact Ho
  isplitl [Hl]; · iexact Hl
  iexact Hc

/-- A wait for one side of the exchange of the statistics, nothing being owed any more. -/
theorem waitSt {Q : PUnit → sProp 𝕄} {w : TpuEff nD τ sig (Elt F) Λ₀ .tc PUnit} {kont : PUnit → PT (F := F)} (s : Fin 2)
    (hw : ∀ X : PUnit → sProp 𝕄, wpE (defs₀ (F := F)) 𝒱₀ (c : Thread nD τ) none Set.univ w X = waitSpec (c : Thread nD τ) Set.univ (csem (kSt s)) Ns X) :
    iprop(ctx m K ∗ cred (tallyAt (cell c (kSt s)) () Ns) ∗ ow c 0 ∗ at₀ c (kSt s) 0)
      ⊢ iprop(((ow c 0 ∗ semVal (cell c (kSt s)) 0 ∗ paySt m c s) -∗ Runs c (kont ⟨⟩) Q) -∗ Runs c (.op w kont) Q) := by
  iintro ⟨#HR, Hc, Ho, Hat⟩ Hk
  iapply (wait_cell m K c (kSt s) 0 (dut_St c s) hw 0 (lvK (kSt s)) (le_refl _) (above_zero _)) $$ [Hc Ho Hat]
  · isplitr; · iexact HR
    isplitl [Hc]; · iexact Hc
    isplitl [Ho]; · iexact Ho
    iexact Hat
  iintro ⟨Ho, Hat, -, Hp⟩
  imod (close_cell m K c (kSt s) 1 (fun r' hr => if_neg fun h => by omega)) $$ [Hat] with Hz
  · isplitr; · iexact HR
    iexact Hat
  iapply Hk
  isplitl [Ho]; · iexact Ho
  isplitl [Hz]; · iexact Hz
  iapply (Entails.of_eq (show pay m c (kSt s) 0 false = paySt m c s from rfl)); iexact Hp

/-! ## Phase B: what came along `y` goes on along `x` -/

def bP (k : Fin 16) : sProp 𝕄 :=
  iprop(at₀ c (kQ 2 k) 0 ∗ (if par c k then cred (tallyAt (cell c (kQ 2 k)) () No) else iprop(emp)) ∗ (if par c k then anyF (xnD c) (chO c k) else iprop(emp))
    ∗ tok c (kQ 1 k) 0 ∗ tok (xnD c) (kQ 3 k) 0)
def bR (k : Fin 16) : sProp 𝕄 :=
  iprop(semVal (cell c (kQ 2 k)) 0 ∗ (if par c k then cred (tallyAt (cell c (kQ 1 k)) () No) else iprop(emp)))

theorem act_par (i : Fin 4) (k : Fin 16) (hi : i ≠ 3) : act c i k = par c k := if_neg hi

theorem stepB_runs {Q : PUnit → sProp 𝕄} (k : Fin 16) (r : PT (F := F)) :
    iprop(ctx m K ∗ ow c (owX c k.val) ∗ bP c k ∗ ((ow c (owX c (k.val + 1)) ∗ bR c k) -∗ Runs c r Q)) ⊢ Runs c (stepBC c k r) Q := by
  unfold bP bR stepBC stepB
  by_cases h : par c k = true
  · rw [show owX c k.val = owX c (k.val + 1) + tallyAt (cell (xnD c) (kQ 3 k)) () No by rw [owX_step, if_pos h],
      dif_pos ((condE_iff c k).mpr h), if_pos h, if_pos h, if_pos h]
    show _ ⊢ Runs c (.op (.waitDma2 (ryS k) (chO c k) (chO c k) (oW.wordExact_slice rfl _ (offO_words c k)) (oW.wordExact_slice rfl _ (offO_words c k))) fun _ =>
      .op (.enqueueDma (chO c k) (.remote (Dev.tc (xnD c)) (chO c k) (.dma (fS k))) (.dma (frS k)) (oW.wordExact_slice rfl _ (offO_words c k)) (oW.wordExact_slice rfl _ (offO_words c k)) ⟨⟨rfl, Or.inl rfl⟩, trivial⟩) fun _ => r) Q
    iintro ⟨#HR, Ho, ⟨Hat, Hc, Hd, Ht, Ht'⟩, Hk⟩
    iapply (wait_Q m K c (w := .waitDma2 (ryS k) (chO c k) (chO c k) (oW.wordExact_slice rfl _ (offO_words c k)) (oW.wordExact_slice rfl _ (offO_words c k))) 2 k h (wpE_waitDma2_eq 𝒱₀ (c : Thread nD τ) none Set.univ)
      (owX c (k.val + 1) + tallyAt (cell (xnD c) (kQ 3 k)) () No) 2 (by show 2 ≤ 2; decide) (above_add (above_owX c _) (above_tally _ _ _ (by show 2 < 3; decide)))) $$ [Hat Hc Ho]
    · isplitr; · iexact HR
      isplitl [Hc]; · iexact Hc
      isplitl [Ho]; · iexact Ho
      iexact Hat
    iintro ⟨Ho, Hz, Hp⟩
    iapply (send_Q m K c (xnD c) (chO c k) 1 3 k h (by show (!par (xnD c) k) = true; rw [par_xn, h]; rfl) (expo m c k) (creditO c k) rfl
      (by show ownsF (xnD c) (chO (xnD c) k) (expo m (xnD c) k) = _
          unfold expo; rw [origin_xn c k h, chO_xn]) (owX c (k.val + 1))) $$ [Hp Hd Ho Ht Ht']
    · isplitr; · iexact HR
      isplitl [Hp]; · iapply (Entails.of_eq (show payQ m c 2 k = ownsF c (chO c k) (expo m c k) from rfl)); iexact Hp
      isplitl [Hd]; · iexact Hd
      isplitl [Ho]; · iexact Ho
      isplitl [Ht]; · iexact Ht
      iexact Ht'
    iintro ⟨Hc, Ho⟩
    iapply Hk
    isplitl [Ho]; · iexact Ho
    isplitl [Hz]; · iexact Hz
    iexact Hc
  · rw [show owX c k.val = owX c (k.val + 1) by rw [owX_step, if_neg h, add_zero],
      dif_neg (fun hh => h ((condE_iff c k).mp hh)), if_neg h, if_neg h, if_neg h]
    show _ ⊢ Runs c r Q
    iintro ⟨#HR, Ho, ⟨Hat, -⟩, Hk⟩
    imod (close_Q m K c 2 k (by rw [act_par c 2 k (by decide)]; exact Bool.not_eq_true _ ▸ h)) $$ [Hat] with Hz
    · isplitr; · iexact HR
      iexact Hat
    iapply Hk
    isplitl [Ho]; · iexact Ho
    isplitl [Hz]; · iexact Hz
    iempintro

/-! ## Phases C and D: the chunks scaled -/

def cP (k : Fin 16) : sProp 𝕄 := iprop(at₀ c (kQ 0 k) 0 ∗ sent m c k)
def cR (k : Fin 16) : sProp 𝕄 := iprop(semVal (cell c (kQ 0 k)) 0 ∗ ownsF c (chM c k) (scaled (facMv m c) k (expv m c k)))

theorem stepC_runs {Q : PUnit → sProp 𝕄} (k : Fin 16) (r : PT (F := F)) :
    iprop(ctx m K ∗ ow c 0 ∗ cP m c k ∗ ((ow c 0 ∗ cR m c k) -∗ Runs c r Q)) ⊢ Runs c (stepCC c (facMv m c) k r) Q := by
  unfold cP cR sent stepCC waitSy
  by_cases h : par c k = true
  · rw [dif_pos ((condE_iff c k).mpr h), if_pos h]
    iintro ⟨#HR, Ho, ⟨Hat, Hc⟩, Hk⟩
    iapply (wait_Q m K c (w := .waitDma2 (syS k) (chM c k) (chM c k) (oW.wordExact_slice rfl _ (offM_words c k)) (oW.wordExact_slice rfl _ (offM_words c k))) 0 k h (wpE_waitDma2_eq 𝒱₀ (c : Thread nD τ) none Set.univ)
      0 0 (le_refl _) (above_zero 0)) $$ [Hat Hc Ho]
    · isplitr; · iexact HR
      isplitl [Hc]; · iexact Hc
      isplitl [Ho]; · iexact Ho
      iexact Hat
    iintro ⟨Ho, Hz, Hp⟩
    iapply (compC_runs c (facMv m c) k (expv m c k) r)
    isplitl [Hp]; · iapply (Entails.of_eq (show payQ m c 0 k = ownsF c (chM c k) (expv m c k) from rfl)); iexact Hp
    iintro Hch
    iapply Hk
    isplitl [Ho]; · iexact Ho
    isplitl [Hz]; · iexact Hz
    iexact Hch
  · rw [dif_neg (fun hh => h ((condE_iff c k).mp hh)), if_neg h]
    show _ ⊢ Runs c ((compC c (facMv m c) k).bind fun _ => r) Q
    iintro ⟨#HR, Ho, ⟨Hat, Hp⟩, Hk⟩
    imod (close_Q m K c 0 k (by rw [act_par c 0 k (by decide)]; exact Bool.not_eq_true _ ▸ h)) $$ [Hat] with Hz
    · isplitr; · iexact HR
      iexact Hat
    iapply (compC_runs c (facMv m c) k (expv m c k) r)
    isplitl [Hp]; · iexact Hp
    iintro Hch
    iapply Hk
    isplitl [Ho]; · iexact Ho
    isplitl [Hz]; · iexact Hz
    iexact Hch

def dP (k : Fin 16) : sProp 𝕄 :=
  iprop(at₀ c (kQ 1 k) 0 ∗ at₀ c (kQ 3 k) 0 ∗ (if par c k then cred (tallyAt (cell c (kQ 1 k)) () No) else iprop(emp)) ∗ (if par c k then iprop(emp) else cred (tallyAt (cell c (kQ 3 k)) () No)))
def dR (k : Fin 16) : sProp 𝕄 :=
  iprop(semVal (cell c (kQ 1 k)) 0 ∗ semVal (cell c (kQ 3 k)) 0 ∗ ownsF c (chO c k) (scaled (facOv m c) k (expo m c k)))

theorem stepD_runs {Q : PUnit → sProp 𝕄} (k : Fin 16) (r : PT (F := F)) :
    iprop(ctx m K ∗ ow c 0 ∗ dP c k ∗ ((ow c 0 ∗ dR m c k) -∗ Runs c r Q)) ⊢ Runs c (stepDC c (facOv m c) k r) Q := by
  unfold dP dR stepDC waitF waitFr
  by_cases h : par c k = true
  · rw [dif_pos ((condE_iff c k).mpr h), dif_neg (fun hh => absurd ((condN_iff c k).mp hh) (by rw [h]; decide)), if_pos h, if_pos h]
    show _ ⊢ Runs c (.op (.waitDma2 (fS k) (chO c k) (chO c k) (oW.wordExact_slice rfl _ (offO_words c k)) (oW.wordExact_slice rfl _ (offO_words c k))) fun _ => (compD c (facOv m c) k).bind fun _ => r) Q
    iintro ⟨#HR, Ho, ⟨Hat, Hat', Hc, -⟩, Hk⟩
    imod (close_Q m K c 3 k (by show (!par c k) = false; rw [h]; rfl)) $$ [Hat'] with Hz'
    · isplitr; · iexact HR
      iexact Hat'
    iapply (wait_Q m K c (w := .waitDma2 (fS k) (chO c k) (chO c k) (oW.wordExact_slice rfl _ (offO_words c k)) (oW.wordExact_slice rfl _ (offO_words c k))) 1 k h (wpE_waitDma2_eq 𝒱₀ (c : Thread nD τ) none Set.univ)
      0 0 (le_refl _) (above_zero 0)) $$ [Hat Hc Ho]
    · isplitr; · iexact HR
      isplitl [Hc]; · iexact Hc
      isplitl [Ho]; · iexact Ho
      iexact Hat
    iintro ⟨Ho, Hz, Hp⟩
    iapply (compD_runs c (facOv m c) k (expo m c k) r)
    isplitl [Hp]; · iapply (Entails.of_eq (show payQ m c 1 k = ownsF c (chO c k) (expo m c k) from rfl)); iexact Hp
    iintro Hch
    iapply Hk
    isplitl [Ho]; · iexact Ho
    isplitl [Hz]; · iexact Hz
    isplitl [Hz']; · iexact Hz'
    iexact Hch
  · have h' : par c k = false := Bool.not_eq_true _ ▸ h
    rw [dif_neg (fun hh => h ((condE_iff c k).mp hh)), dif_pos ((condN_iff c k).mpr h'), if_neg h, if_neg h]
    show _ ⊢ Runs c (.op (.waitDma2 (frS k) (chO c k) (chO c k) (oW.wordExact_slice rfl _ (offO_words c k)) (oW.wordExact_slice rfl _ (offO_words c k))) fun _ => (compD c (facOv m c) k).bind fun _ => r) Q
    iintro ⟨#HR, Ho, ⟨Hat', Hat, -, Hc⟩, Hk⟩
    imod (close_Q m K c 1 k (by rw [act_par c 1 k (by decide)]; exact h')) $$ [Hat'] with Hz'
    · isplitr; · iexact HR
      iexact Hat'
    iapply (wait_Q m K c (w := .waitDma2 (frS k) (chO c k) (chO c k) (oW.wordExact_slice rfl _ (offO_words c k)) (oW.wordExact_slice rfl _ (offO_words c k))) 3 k (by show (!par c k) = true; rw [h']; rfl) (wpE_waitDma2_eq 𝒱₀ (c : Thread nD τ) none Set.univ)
      0 3 (le_refl _) (above_zero 3)) $$ [Hat Hc Ho]
    · isplitr; · iexact HR
      isplitl [Hc]; · iexact Hc
      isplitl [Ho]; · iexact Ho
      iexact Hat
    iintro ⟨Ho, Hz, Hp⟩
    iapply (compD_runs c (facOv m c) k (expo m c k) r)
    isplitl [Hp]; · iapply (Entails.of_eq (show payQ m c 3 k = ownsF c (chO c k) (expo m c k) from rfl)); iexact Hp
    iintro Hch
    iapply Hk
    isplitl [Ho]; · iexact Ho
    isplitl [Hz']; · iexact Hz'
    isplitl [Hz]; · iexact Hz
    iexact Hch

end Cert.Softmax
-- ==== Proof.Body.lean ====
/- The whole body, from what the launch gives a device to what it leaves. -/
module

public import proofs.«01_k».proof.Proof.Later

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The duty tokens: which there are, and which device pays each -/

/-- The four families; the statistics; the sixteen copies of the weights; the barrier's two. -/
abbrev TK : Type := (Fin 4 × Fin 16) ⊕ (Fin 2 ⊕ (Fin 16 ⊕ Bool))
def tk : TK → CK × ℕ × Bool
  | .inl ik => (kQ ik.1 ik.2, 0, false)
  | .inr (.inl s) => (kSt s, 0, false)
  | .inr (.inr (.inl k)) => (kW (sl k), k.val / 2, false)
  | .inr (.inr (.inr d)) => (kBar, 0, d)
/-- The device that a payer's token belongs to. -/
def who : TK → Dev nD ≃ Dev nD
  | .inl ik => if ik.1 = 2 then ynE else if ik.1 = 3 then xnE else Equiv.refl _
  | .inr (.inl s) => if s = 1 then ynE else Equiv.refl _
  | .inr (.inr (.inl _)) => Equiv.refl _
  | .inr (.inr (.inr d)) => if d then ynE else xnE

def payTok (t : TK) : sProp 𝕄 := dutyTok ER (cell (who t c) (tk t).1) (tk t).2.1 (tk t).2.2

theorem sep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem sep_fin2 {M : Type} [URA M] (Φ : Fin 2 → sProp M) : bigSep Finset.univ Φ = iprop(Φ 0 ∗ Φ 1) := bigSep_fin_two Φ
theorem sep_fam (Φ : Fin 4 × Fin 16 → sProp 𝕄) : bigSep Finset.univ Φ
    = iprop((bigSep Finset.univ fun k => Φ (0, k)) ∗ (bigSep Finset.univ fun k => Φ (1, k)) ∗ (bigSep Finset.univ fun k => Φ (2, k)) ∗ bigSep Finset.univ fun k => Φ (3, k)) := by
  rw [bigSep_univ_prod, sep_fin4]
theorem sep_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem sep_bool (Φ : Bool → sProp 𝕄) : bigSep Finset.univ Φ = iprop(Φ false ∗ Φ true) :=
  bigSep_univ_eq_bigSepL [false, true] (by decide) (by decide) Φ
theorem sep_unit (Φ : Unit → sProp 𝕄) : bigSep Finset.univ Φ = Φ () := by
  rw [show (Finset.univ : Finset Unit) = {()} from rfl, bigSep_singleton]
theorem sep_two {I : Type} [DecidableEq I] (s : Finset I) (Φ Ψ : I → sProp 𝕄) : bigSep s (fun i => iprop(Φ i ∗ Ψ i)) = iprop(bigSep s Φ ∗ bigSep s Ψ) := bigSep_sep s Φ Ψ

theorem sep_cells (Φ : CK → sProp 𝕄) : bigSep Finset.univ Φ
    = iprop((((bigSep Finset.univ fun k => Φ (kQ 0 k)) ∗ (bigSep Finset.univ fun k => Φ (kQ 1 k)) ∗ (bigSep Finset.univ fun k => Φ (kQ 2 k)) ∗ bigSep Finset.univ fun k => Φ (kQ 3 k))
      ∗ (Φ (kW 0) ∗ Φ (kW 1)) ∗ (Φ (kSt 0) ∗ Φ (kSt 1))) ∗ Φ kBar) := by
  rw [sep_sum, sep_sum, sep_sum, sep_fam, sep_fin2, sep_fin2, sep_unit]

theorem sep_toks : bigSep Finset.univ (payTok (F := F) c)
    = iprop(((bigSep Finset.univ fun k => tok c (kQ 0 k) 0) ∗ (bigSep Finset.univ fun k => tok c (kQ 1 k) 0) ∗ (bigSep Finset.univ fun k => tok (ynD c) (kQ 2 k) 0) ∗ bigSep Finset.univ fun k => tok (xnD c) (kQ 3 k) 0)
      ∗ (tok c (kSt 0) 0 ∗ tok (ynD c) (kSt 1) 0) ∗ (bigSep Finset.univ fun k : Fin 16 => tok c (kW (sl k)) (k.val / 2))
      ∗ dutyTok ER (cell (xnD c) kBar) 0 false ∗ dutyTok ER (cell (ynD c) kBar) 0 true) := by
  rw [sep_sum, sep_sum, sep_sum, sep_fam, sep_fin2, sep_bool]
  rfl

/-! ## What the body takes and leaves -/

def credits : sProp 𝕄 :=
  iprop(cred (tallyAt (cell c kBar) () 2) ∗ cred (tallyAt (cell c (kSt 1)) () Ns)
    ∗ (bigSep Finset.univ fun k : Fin 16 => if par c k then cred (tallyAt (cell c (kQ 2 k)) () No) else iprop(emp))
    ∗ (bigSep Finset.univ fun k : Fin 16 => if par c k then iprop(emp) else cred (tallyAt (cell c (kQ 3 k)) () No)))
/-- The buffers, in the parts that change hands. -/
def parts : sProp 𝕄 :=
  iprop(pts c cc0_stg0_0 fullShare (xstg m c) ∗ (∃ f, pts c cc0_scratch0 fullShare f) ∗ (anyF c (slotM 0) ∗ anyF c (slotM 1))
    ∗ (∃ f, pts c cc0_scratch2 fullShare f) ∗ (∃ f, pts c cc0_scratch3 fullShare f)
    ∗ (bigSep Finset.univ fun k => anyF c (chM c k)) ∗ (bigSep Finset.univ fun k => anyF c (chO c k)) ∗ bigSep Finset.univ fun k => ownsF c (wBlk k) (wblk m c k))
def partsOut : sProp 𝕄 :=
  iprop(pts c cc0_stg0_0 fullShare (xstg m c) ∗ (∃ f, pts c cc0_scratch0 fullShare f) ∗ (anyF c (slotM 0) ∗ anyF c (slotM 1))
    ∗ (∃ f, pts c cc0_scratch2 fullShare f) ∗ (∃ f, pts c cc0_scratch3 fullShare f)
    ∗ (bigSep Finset.univ fun k => ownsF c (chM c k) (scaled (facMv m c) k (expv m c k))) ∗ (bigSep Finset.univ fun k => ownsF c (chO c k) (scaled (facOv m c) k (expo m c k)))
    ∗ bigSep Finset.univ fun k => ownsF c (wBlk k) (wblk m c k))
def bodyIn : sProp 𝕄 :=
  iprop(ow c (ow₀ c) ∗ bigSep Finset.univ (payTok c) ∗ (bigSep Finset.univ fun k : CK => at₀ c k 0) ∗ credits c ∗ parts m c)
def bodyOut : sProp 𝕄 := iprop(ow c 0 ∗ (bigSep Finset.univ fun k : CK => semVal (cell c k) 0) ∗ partsOut m c)

/-- The blocks of the weights with their tokens: block 0, and for each block the next. -/
theorem toks_next : bigSep Finset.univ (wTok m c) = iprop(wTok m c 0 ∗ bigSep Finset.univ (nextTok m c)) := by
  have hs : (Finset.univ : Finset (Fin 16)) = insert 15 (Finset.univ.map (Fin.castSuccEmb : Fin 15 ↪ Fin 16)) := by decide
  have hz : (l15).toFinset = Finset.univ.map (Fin.succEmb 15) := by decide
  have h15 : nextTok m c 15 = iprop(emp) := dif_neg (by decide)
  rw [split16, hz, bigSep_map, hs, bigSep_cons (by decide), bigSep_map, h15]
  have hc : (bigSep Finset.univ fun i : Fin 15 => nextTok m c (Fin.castSuccEmb i)) = bigSep Finset.univ fun i : Fin 15 => wTok m c (Fin.succEmb 15 i) :=
    bigSep_congr fun i _ => dif_pos (show i.val + 1 < 16 by omega)
  rw [hc]
  congr 1
  exact (equiv_iff.mp emp_sep).symm

theorem split_chO : (bigSep Finset.univ fun k => anyF (F := F) c (chO c k))
    ⊢ iprop((bigSep Finset.univ fun k : Fin 16 => if par c k then iprop(emp) else anyF c (chO c k)) ∗ (bigSep Finset.univ fun k : Fin 16 => if par c k then anyF c (chO c k) else iprop(emp))) := by
  rw [← sep_two]
  refine bigSep_mono fun k _ => ?_
  cases par c k
  · rw [if_neg Bool.false_ne_true, if_neg Bool.false_ne_true]; exact Entails.of_eq (equiv_iff.mp (sep_emp (P := anyF (F := F) c (chO c k)))).symm
  · rw [if_pos rfl, if_pos rfl]; exact Entails.of_eq (equiv_iff.mp (emp_sep (P := anyF (F := F) c (chO c k)))).symm

theorem finish_runs {Q : PUnit → sProp 𝕄} :
    iprop(ctx m K ∗ ow c 0 ∗ (cred (tallyAt (cell c (kSt 0)) () Ns) ∗ cred (tallyAt (cell c (kSt 1)) () Ns)) ∗ (at₀ c (kSt 0) 0 ∗ at₀ c (kSt 1) 0)
      ∗ pts c cc0_scratch2 fullShare.left (stats m c) ∗ bigSep Finset.univ (cP m c) ∗ bigSep Finset.univ (dP c)
      ∗ ((ow c 0 ∗ (semVal (cell c (kSt 0)) 0 ∗ semVal (cell c (kSt 1)) 0) ∗ (∃ f, pts c cc0_scratch2 fullShare f) ∗ (∃ f, pts c cc0_scratch3 fullShare f)
          ∗ bigSep Finset.univ (cR m c) ∗ bigSep Finset.univ (dR m c)) -∗ Q ⟨⟩))
      ⊢ Runs c (finishC c) Q := by
  unfold finishC
  iintro ⟨#HR, Ho, ⟨Hc0, Hc1⟩, ⟨Ha0, Ha1⟩, Hs, HC, HD, Hk⟩
  iapply (waitSt m K c (w := .waitDma2 (stS 1) msM psM msW.wordExact psW.wordExact) 1 (wpE_waitDma2_eq 𝒱₀ (c : Thread nD τ) none Set.univ)) $$ [Hc1 Ho Ha1]
  · isplitr; · iexact HR
    isplitl [Hc1]; · iexact Hc1
    isplitl [Ho]; · iexact Ho
    iexact Ha1
  iintro ⟨Ho, Hz1, Hp⟩
  ihave Hp := (Entails.of_eq (show paySt m c 1 = pts c cc0_scratch3 fullShare (stats m (ynD c)) from if_neg (by decide))) $$ Hp
  unfold pts
  iapply (wp_load 𝒱₀ (c : Thread nD τ) none Set.univ (m := msM) (S := Finset.univ) (Finset.subset_univ _)) $$ Hs; iintro Hs
  iapply (wp_load 𝒱₀ (c : Thread nD τ) none Set.univ (m := msM) (S := Finset.univ) (Finset.subset_univ _)) $$ Hs; iintro Hs
  iapply (wp_load 𝒱₀ (c : Thread nD τ) none Set.univ (m := psM) (S := Finset.univ) (Finset.subset_univ _)) $$ Hp; iintro Hp
  iapply (wp_load 𝒱₀ (c : Thread nD τ) none Set.univ (m := psM) (S := Finset.univ) (Finset.subset_univ _)) $$ Hp; iintro Hp
  iapply (run_loop m K c (stepCC c (facMv m c)) (fun _ => ow c 0) (cP m c) (cR m c) (fun k r => stepC_runs m K c k r))
  isplitr; · iexact HR
  isplitl [Ho]; · iexact Ho
  isplitl [HC]; · iexact HC
  iintro ⟨Ho, HC⟩
  iapply (run_loop m K c (stepDC c (facOv m c)) (fun _ => ow c 0) (dP c) (dR m c) (fun k r => stepD_runs m K c k r))
  isplitr; · iexact HR
  isplitl [Ho]; · iexact Ho
  isplitl [HD]; · iexact HD
  iintro ⟨Ho, HD⟩
  iapply (waitSt m K c (w := .waitDma2 (stS 0) psM msM psW.wordExact msW.wordExact) 0 (wpE_waitDma2_eq 𝒱₀ (c : Thread nD τ) none Set.univ)) $$ [Hc0 Ho Ha0]
  · isplitr; · iexact HR
    isplitl [Hc0]; · iexact Hc0
    isplitl [Ho]; · iexact Ho
    iexact Ha0
  iintro ⟨Ho, Hz0, Hr⟩
  ihave Hr := (Entails.of_eq (show paySt m c 0 = pts c cc0_scratch2 fullShare.right (stats m c) from if_pos rfl)) $$ Hr
  unfold pts
  ihave Hs := (pointsTo_share (ℓ := (c : Thread nD τ).loc cc0_scratch2) (I := Finset.univ) (f := stats m c) (PosShare.mem_left_op_right fullShare)).2 $$ [Hs Hr]
  · isplitl [Hs]; · iexact Hs
    iexact Hr
  unfold Runs
  rw [wp_ret]
  imodintro
  iapply Hk
  isplitl [Ho]; · iexact Ho
  isplitl [Hz0 Hz1]
  · isplitl [Hz0]; · iexact Hz0
    iexact Hz1
  isplitl [Hs]; · iexists _; iexact Hs
  isplitl [Hp]; · iexists _; iexact Hp
  isplitl [HC]; · iexact HC
  iexact HD

theorem phaseA_runs {Q : PUnit → sProp 𝕄} (r : PT (F := F)) :
    iprop(ctx m K ∗ invA m c 0 ∗ bigSep Finset.univ (frontP m c)
      ∗ (cred (tallyAt (cell c kBar) () 2) ∗ at₀ c kBar 0)
      ∗ ((bigSep Finset.univ fun k => tok c (kQ 0 k) 0) ∗ (bigSep Finset.univ fun k => tok (ynD c) (kQ 2 k) 0))
      ∗ ((invA m c 16 ∗ bigSep Finset.univ (fun k => iprop(sent m c k ∗ ownsF c (wBlk k) (wblk m c k))) ∗ at₀ c kBar 1 ∗ barX c ∗ (∃ f, pts (ynD c) cc0_scratch3 fullShare f)) -∗ Runs c r Q))
      ⊢ Runs c (loopC (stepAC c) r) Q := by
  show _ ⊢ Runs c (stepAC c 0 (l15.foldr (stepAC c) r)) Q
  unfold stepAC
  iintro ⟨#HR, HI, Hf, ⟨Hcb, Hab⟩, ⟨Ht, Ht'⟩, Hk⟩
  ihave Hf := (Entails.of_eq (split16 (frontP m c))) $$ Hf
  icases Hf with ⟨Hf0, Hf⟩
  iapply (front_runs m K c 0)
  isplitr; · iexact HR
  isplitl [HI]; · iexact HI
  isplitl [Hf0]; · iexact Hf0
  iintro ⟨Ho, Hx, Hst, Hsl, Hch, Hw⟩
  iapply (barWait_runs m K c)
  isplitr; · iexact HR
  isplitl [Hcb]; · iexact Hcb
  isplitl [Ho]; · iexact Ho
  isplitl [Hab]; · iexact Hab
  unfold fromBar barY
  iintro ⟨Ho, Hab, HX, HY, Hst3⟩
  ihave Hs := (Entails.of_eq (show iprop((bigSep Finset.univ fun k : Fin 16 => if par c k then anyF (ynD c) (chM c k) else iprop(emp)) ∗ (bigSep Finset.univ fun k => tok c (kQ 0 k) 0) ∗ (bigSep Finset.univ fun k => tok (ynD c) (kQ 2 k) 0))
    = iprop(sendP (F := F) c 0 ∗ bigSep (l15).toFinset (sendP c)) from by rw [← sep_two, ← sep_two, ← split16]; rfl)) $$ [HY Ht Ht']
  · isplitl [HY]; · iexact HY
    isplitl [Ht]; · iexact Ht
    iexact Ht'
  icases Hs with ⟨Hs0, Hs⟩
  iapply (sendY_runs m K c 0)
  isplitr; · iexact HR
  isplitl [Ho]; · iexact Ho
  isplitl [Hch]; · iexact Hch
  isplitl [Hs0]; · iexact Hs0
  iintro ⟨Ho, Hsent⟩
  iapply (run_list m K c (stepAC c) (invA m c) (fun k => iprop(frontP m c k ∗ sendP c k)) (fun k => iprop(sent m c k ∗ ownsF c (wBlk k) (wblk m c k))) l15 (fun k hk r => stepA_runs m K c k hk r) r 1 from15)
  isplitr; · iexact HR
  isplitl [Ho Hx Hst Hsl]
  · unfold invA
    isplitl [Ho]; · iexact Ho
    isplitl [Hx]; · iexact Hx
    isplitl [Hst]; · iexact Hst
    iexact Hsl
  isplitl [Hf Hs]
  · rw [sep_two]
    isplitl [Hf]; · iexact Hf
    iexact Hs
  iintro ⟨HI, HP⟩
  iapply Hk
  isplitl [HI]; · iexact HI
  isplitl [Hsent Hw HP]
  · rw [split16]
    isplitl [Hsent Hw]
    · isplitl [Hsent]; · iexact Hsent
      iexact Hw
    iexact HP
  isplitl [Hab]; · iexact Hab
  isplitl [HX]; · iexact HX
  iexact Hst3

theorem slots_zero : slots (F := F) c 0 = iprop(cred (tallyAt (cell c (kW 0)) () Nw) ∗ at₀ c (kW 0) 0 ∗ anyF c (slotM 1) ∗ at₀ c (kW 1) 0 ∗ reached ER (cell c (kW 1)) 0) := by
  unfold slots; rw [if_pos (by decide)]; rfl
theorem slots_last : slots (F := F) c 16 = iprop(anyF c (slotM 0) ∗ at₀ c (kW 0) 8 ∗ anyF c (slotM 1) ∗ at₀ c (kW 1) 8 ∗ reached ER (cell c (kW 1)) 8) := by
  unfold slots; rw [if_neg (by decide)]; rfl

theorem body_runs {Q : PUnit → sProp 𝕄} : iprop(ctx m K ∗ bodyIn m c ∗ (bodyOut m c -∗ Q ⟨⟩)) ⊢ Runs c (myBodyC c) Q := by
  unfold bodyIn bodyOut credits parts partsOut myBodyC
  rw [sep_toks, sep_cells, sep_cells]
  iintro ⟨#HR, ⟨Ho, ⟨⟨Tq0, Tq1, Tq2, Tq3⟩, ⟨Ts0, Ts1⟩, Tw, Tbx, Tby⟩, ⟨⟨⟨Aq0, Aq1, Aq2, Aq3⟩, ⟨Aw0, Aw1⟩, ⟨As0, As1⟩⟩, Ab⟩,
    ⟨Cb, Cs1, Cq2, Cq3⟩, ⟨Hx, Hxb, ⟨Hsl0, Hsl1⟩, Hst, Hst3, HM, HO, HW⟩⟩, Hk⟩
  ihave HO := (split_chO c) $$ HO
  icases HO with ⟨HOx, HOy⟩
  iapply (prologue_runs m K c)
  isplitr; · iexact HR
  isplitl [Ho]; · iexact Ho
  isplitl [Tbx]; · iexact Tbx
  isplitl [Tby]; · iexact Tby
  isplitl [HOx]; · iapply (Entails.of_eq (barX_xn c)); iexact HOx
  isplitl [HOy Hst3]
  · iapply (Entails.of_eq (barY_yn c))
    isplitl [HOy]; · iexact HOy
    iexact Hst3
  isplitl [Hx]; · iexact Hx
  isplitl [Hxb]; · iexact Hxb
  iintro ⟨Ho, Hx, Hxb⟩
  ihave HW := (Entails.of_eq (show iprop((bigSep Finset.univ fun k => ownsF c (wBlk k) (wblk m c k)) ∗ bigSep Finset.univ fun k : Fin 16 => tok c (kW (sl k)) (k.val / 2))
    = iprop(wTok m c 0 ∗ bigSep Finset.univ (nextTok m c)) from by rw [← sep_two]; exact toks_next m c)) $$ [HW Tw]
  · isplitl [HW]; · iexact HW
    iexact Tw
  icases HW with ⟨HW0, HW⟩
  iapply (startW_runs m K c 0)
  isplitr; · iexact HR
  isplitl [Hsl0]; · iexact Hsl0
  isplitl [HW0]; · iexact HW0
  isplitr; · iapply (reached_at m K c (kW 0)); unfold ctx; icases HR with ⟨HR', -⟩; iexact HR'
  iintro Cw
  iapply (phaseA_runs m K c)
  isplitr; · iexact HR
  isplitl [Ho Hxb Hst Cw Hsl1 Aw0 Aw1]
  · unfold invA
    isplitl [Ho]; · iexact Ho
    isplitl [Hxb]; · iexact Hxb
    isplitl [Hst]
    · unfold statsUpto
      icases Hst with ⟨%f, Hst⟩
      iexists f
      isplitr; · ipureintro; exact fun i h => absurd h (Nat.not_lt_zero _)
      iexact Hst
    rw [slots_zero]
    isplitl [Cw]; · iexact Cw
    isplitl [Aw0]; · iexact Aw0
    isplitl [Hsl1]; · iexact Hsl1
    isplitl [Aw1]; · iexact Aw1
    iapply (reached_at m K c (kW 1)); unfold ctx; icases HR with ⟨HR', -⟩; iexact HR'
  isplitl [HW HM]
  · rw [show frontP m c = fun k => iprop(nextTok m c k ∗ anyF c (chM c k)) from rfl, sep_two]
    isplitl [HW]; · iexact HW
    iexact HM
  isplitl [Cb Ab]
  · isplitl [Cb]; · iexact Cb
    iexact Ab
  isplitl [Tq0 Tq2]
  · isplitl [Tq0]; · iexact Tq0
    iexact Tq2
  unfold invA barX
  rw [sep_two]
  iintro ⟨⟨Ho, Hxb, Hst, Hsl⟩, ⟨HS, HW⟩, Ab, HX, Hst3⟩
  iapply (sendSt_runs m K c)
  isplitr; · iexact HR
  isplitl [Ho]; · iexact Ho
  isplitl [Hst]; · iexact Hst
  isplitl [Hst3]; · iexact Hst3
  isplitl [Ts0]; · iexact Ts0
  isplitl [Ts1]; · iexact Ts1
  iintro ⟨Ho, Hst, Cs0⟩
  iapply (run_loop m K c (stepBC c) (fun n => ow c (owX c n)) (bP c) (bR c) (fun k r => stepB_runs m K c k r))
  isplitr; · iexact HR
  isplitl [Ho]; · iexact Ho
  isplitl [Aq2 Cq2 HX Tq1 Tq3]
  · rw [show bP (F := F) c = fun k => iprop(at₀ c (kQ 2 k) 0 ∗ (if par c k then cred (tallyAt (cell c (kQ 2 k)) () No) else iprop(emp)) ∗ (if par c k then anyF (xnD c) (chO c k) else iprop(emp))
      ∗ tok c (kQ 1 k) 0 ∗ tok (xnD c) (kQ 3 k) 0) from rfl, sep_two, sep_two, sep_two, sep_two]
    isplitl [Aq2]; · iexact Aq2
    isplitl [Cq2]; · iexact Cq2
    isplitl [HX]; · iexact HX
    isplitl [Tq1]; · iexact Tq1
    iexact Tq3
  rw [owX_end, show bR (F := F) c = fun k => iprop(semVal (cell c (kQ 2 k)) 0 ∗ (if par c k then cred (tallyAt (cell c (kQ 1 k)) () No) else iprop(emp))) from rfl, sep_two]
  iintro ⟨Ho, Zq2, Cq1⟩
  ihave Hsl := (Entails.of_eq (slots_last c)) $$ Hsl
  icases Hsl with ⟨Hsl0, Aw0, Hsl1, Aw1, -⟩
  iapply fupd_wp
  imod (close_cell m K c (kW 0) 8 (fun r' hr => if_neg fun h => by omega)) $$ [Aw0] with Zw0
  · isplitr; · iexact HR
    iexact Aw0
  imod (close_cell m K c (kW 1) 8 (fun r' hr => if_neg fun h => by omega)) $$ [Aw1] with Zw1
  · isplitr; · iexact HR
    iexact Aw1
  imod (close_cell m K c kBar 1 (fun r' hr => if_neg fun h => by omega)) $$ [Ab] with Zb
  · isplitr; · iexact HR
    iexact Ab
  imodintro
  iapply (finish_runs m K c)
  isplitr; · iexact HR
  isplitl [Ho]; · iexact Ho
  isplitl [Cs0 Cs1]
  · isplitl [Cs0]; · iexact Cs0
    iexact Cs1
  isplitl [As0 As1]
  · isplitl [As0]; · iexact As0
    iexact As1
  isplitl [Hst]; · iexact Hst
  isplitl [Aq0 HS]
  · rw [show cP m c = fun k => iprop(at₀ c (kQ 0 k) 0 ∗ sent m c k) from rfl, sep_two]
    isplitl [Aq0]; · iexact Aq0
    iexact HS
  isplitl [Aq1 Aq3 Cq1 Cq3]
  · rw [show dP (F := F) c = fun k => iprop(at₀ c (kQ 1 k) 0 ∗ at₀ c (kQ 3 k) 0 ∗ (if par c k then cred (tallyAt (cell c (kQ 1 k)) () No) else iprop(emp)) ∗ (if par c k then iprop(emp) else cred (tallyAt (cell c (kQ 3 k)) () No))) from rfl,
      sep_two, sep_two, sep_two]
    isplitl [Aq1]; · iexact Aq1
    isplitl [Aq3]; · iexact Aq3
    isplitl [Cq1]; · iexact Cq1
    iexact Cq3
  rw [show cR m c = fun k => iprop(semVal (cell c (kQ 0 k)) 0 ∗ ownsF c (chM c k) (scaled (facMv m c) k (expv m c k))) from rfl,
    show dR m c = fun k => iprop(semVal (cell c (kQ 1 k)) 0 ∗ semVal (cell c (kQ 3 k)) 0 ∗ ownsF c (chO c k) (scaled (facOv m c) k (expo m c k))) from rfl, sep_two, sep_two, sep_two]
  iintro ⟨Ho, ⟨Zs0, Zs1⟩, Hst, Hst3, ⟨Zq0, HM⟩, ⟨Zq1, Zq3, HO⟩⟩
  iapply Hk
  isplitl [Ho]; · iexact Ho
  isplitl [Zs0 Zs1 Zq0 Zq1 Zq2 Zq3 Zw0 Zw1 Zb]
  · isplitr [Zb]
    · isplitl [Zq0 Zq1 Zq2 Zq3]
      · isplitl [Zq0]; · iexact Zq0
        isplitl [Zq1]; · iexact Zq1
        isplitl [Zq2]; · iexact Zq2
        iexact Zq3
      isplitl [Zw0 Zw1]
      · isplitl [Zw0]; · iexact Zw0
        iexact Zw1
      isplitl [Zs0]; · iexact Zs0
      iexact Zs1
    iexact Zb
  isplitl [Hx]; · iexact Hx
  isplitl [Hxb]; · iexists _; iexact Hxb
  isplitl [Hsl0 Hsl1]
  · isplitl [Hsl0]; · iexact Hsl0
    iexact Hsl1
  isplitl [Hst]; · iexact Hst
  isplitl [Hst3]; · iexact Hst3
  isplitl [HM]; · iexact HM
  isplitl [HO]; · iexact HO
  iexact HW

end Cert.Softmax
-- ==== Proof.Split.lean ====
/- The buffers cut into the parts the body works on, and put together again. -/
module

public import proofs.«01_k».proof.Proof.Body
public import Idealize.ShloMosaic.Lib.Ring

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Owning a part, as its elements of one buffer -/

/-- A part at the contents it has in `g` is its elements of `g`. -/
theorem owns_at {sp : Space} {sh : Shape} {e : EltTy} (b : Memref sig .tc sp sh e) (X : sh.Idx → Elt F e) (g : b.view.ty.Contents (Elt F)) (h : b.view.read (Elt F) g = X) :
    ownsF c b X ⊢ (b.view.loc (c : Thread nD τ) ↦[b.view.set]{fullShare} g : sProp 𝕄) := by
  show owns (c : Thread nD τ) b fullShare X ⊢ _
  unfold owns
  iintro ⟨%f, %hf, H⟩
  iapply (Entails.of_eq (pointsTo_congr (ℓ := b.view.loc (c : Thread nD τ)) (f := f) (g := g) (I := b.view.set) fun i hi => by
    obtain ⟨x, -, hx⟩ := Finset.mem_map.mp hi
    subst hx
    exact View.eq_of_read_eq (congrFun (hf.trans h.symm) x)))
  iexact H
theorem any_of {sp : Space} {sh : Shape} {e : EltTy} (b : Memref sig .tc sp sh e) (g : b.view.ty.Contents (Elt F)) :
    (b.view.loc (c : Thread nD τ) ↦[b.view.set]{fullShare} g : sProp 𝕄) ⊢ anyF c b := by
  iintro H; iexists _; iapply (owns_intro (c : Thread nD τ) b fullShare g); iexact H
theorem some_of {sp : Space} {sh : Shape} {e : EltTy} (b : Memref sig .tc sp sh e) :
    anyF (F := F) c b ⊢ (iprop(∃ g, b.view.loc (c : Thread nD τ) ↦[b.view.set]{fullShare} g) : sProp 𝕄) := by
  simp only [anyF, ownsF, owns]
  iintro ⟨%X, %f, -, H⟩; iexists f; iexact H

/-! ## The result: thirty-two chunks -/

theorem offM_eq : ∀ (d : Dev nD) (k : Fin 16), offM d k = ![0, 512 * (16 * (d.val % 2) + k.val)] := by decide +kernel
theorem offO_eq : ∀ (d : Dev nD) (k : Fin 16), offO d k = ![0, 512 * (16 * (1 - d.val % 2) + k.val)] := by decide +kernel

/-- The chunk of a column. -/
theorem mem_chunk {off : Fin 2 → Nat} {n : ℕ} (h : ∀ a, off a + S512x512.size a ≤ S512x16384.size a) (e : off = ![0, 512 * n]) (x : S512x16384.Idx) :
    x ∈ (oM.slice (Rect.unit (s := S512x16384) off S512x512.size h) (fun _ => rfl)).view.set ↔ (x 1).val / 512 = n := by
  subst e
  refine (ValueKit.mem_set_slice_whole_iff cc0_stg1_0 _ _ Rect.mem_set_unit).trans ?_
  have h0 : (x 0).val < 512 := (x 0).isLt
  constructor
  · intro hh
    have h1 : 512 * n ≤ (x 1).val ∧ (x 1).val < 512 * n + 512 := hh 1
    omega
  · intro hh a
    match a with
    | 0 => show 0 ≤ (x 0).val ∧ (x 0).val < 0 + 512; omega
    | 1 => show 512 * n ≤ (x 1).val ∧ (x 1).val < 512 * n + 512; omega

/-- The number of a chunk: the own ones and the others. -/
def nth : Fin 16 ⊕ Fin 16 → ℕ
  | .inl k => 16 * (c.val % 2) + k.val
  | .inr k => 16 * (1 - c.val % 2) + k.val
def chunkSet : Fin 16 ⊕ Fin 16 → Finset (Idx ((c : Thread nD τ).loc cc0_stg1_0))
  | .inl k => (chM c k).view.set
  | .inr k => (chO c k).view.set
theorem mem_chunkSet (b : Fin 16 ⊕ Fin 16) (x : S512x16384.Idx) : x ∈ chunkSet c b ↔ (x 1).val / 512 = nth c b :=
  match b with
  | .inl k => mem_chunk (k0_off1_inb c k) (offM_eq c k) x
  | .inr k => mem_chunk (k0_off52_inb c k) (offO_eq c k) x
theorem nth_inj (b b' : Fin 16 ⊕ Fin 16) (h : b ≠ b') : nth c b ≠ nth c b' := by
  intro e
  apply h
  match b, b' with
  | .inl k, .inl k' => exact congrArg _ (Fin.ext (by simp only [nth] at e; omega))
  | .inr k, .inr k' => exact congrArg _ (Fin.ext (by simp only [nth] at e; omega))
  | .inl k, .inr k' => have := k.isLt; have := k'.isLt; simp only [nth] at e; omega
  | .inr k, .inl k' => have := k.isLt; have := k'.isLt; simp only [nth] at e; omega
theorem chunk_disj (b b' : Fin 16 ⊕ Fin 16) (h : b ≠ b') : Disjoint (chunkSet c b) (chunkSet c b') :=
  Finset.disjoint_left.mpr fun x hx hx' => nth_inj c b b' h (((mem_chunkSet c b x).mp hx).symm.trans ((mem_chunkSet c b' x).mp hx'))
theorem chunk_cover : Finset.univ.biUnion (chunkSet c) = Finset.univ := by
  refine Finset.eq_univ_of_forall fun x => ?_
  have hx : (x 1).val < 16384 := (x 1).isLt
  by_cases h : (x 1).val / 512 / 16 = c.val % 2
  · exact Finset.mem_biUnion.mpr ⟨.inl ⟨(x 1).val / 512 % 16, Nat.mod_lt _ (by decide)⟩, Finset.mem_univ _, (mem_chunkSet c _ x).mpr (by simp only [nth]; omega)⟩
  · exact Finset.mem_biUnion.mpr ⟨.inr ⟨(x 1).val / 512 % 16, Nat.mod_lt _ (by decide)⟩, Finset.mem_univ _, (mem_chunkSet c _ x).mpr (by simp only [nth]; omega)⟩

/-- What the body leaves in the result of `c`. -/
def outC : (cc0_stg1_0 : Ref sig .tc).ty.Contents (Elt F) := fun i =>
  let k : Fin 16 := ⟨(i 1).val / 512 % 16, Nat.mod_lt _ (by decide)⟩
  let p : S512x512.Idx := fun a => match a with | 0 => i 0 | 1 => (⟨(i 1).val % 512, Nat.mod_lt _ (by decide)⟩ : Fin 512)
  if (i 1).val / 512 / 16 = c.val % 2 then scaled (facMv m c) k (expv m c k) p else scaled (facOv m c) k (expo m c k) p

theorem out_at (i : S512x16384.Idx) (k : Fin 16) (x : S512x512.Idx) (n : ℕ) (h0 : (i 0).val = (x 0).val) (h1 : (i 1).val = 512 * (16 * n + k.val) + (x 1).val) :
    outC m c i = if n = c.val % 2 then scaled (facMv m c) k (expv m c k) x else scaled (facOv m c) k (expo m c k) x := by
  have hx : (x 1).val < 512 := (x 1).isLt
  have e1 : (i 1).val / 512 / 16 = n := by omega
  have e2 : (⟨(i 1).val / 512 % 16, Nat.mod_lt _ (by decide)⟩ : Fin 16) = k := Fin.ext (by show (i 1).val / 512 % 16 = k.val; omega)
  have e3 : (fun a => match a with | 0 => i 0 | 1 => (⟨(i 1).val % 512, Nat.mod_lt _ (by decide)⟩ : Fin 512) : S512x512.Idx) = x := by
    funext a
    match a with
    | 0 => exact Fin.ext h0
    | 1 => exact Fin.ext (by show (i 1).val % 512 = (x 1).val; omega)
  unfold outC
  simp only [e1, e2, e3]

theorem out_M (k : Fin 16) : (chM c k).view.read (Elt F) (outC m c) = scaled (facMv m c) k (expv m c k) := by
  funext x
  have h := fun a => (ValueKit.view_emb_slice_whole_unit_val cc0_stg1_0 (offM c k) S512x512.size (k0_off1_inb c k) x a).trans (congrArg (· + (x a).val) (congrFun (offM_eq c k) a))
  rw [View.read_apply]
  refine (out_at m c _ k x (c.val % 2) ((h 0).trans (Nat.zero_add _)) (h 1)).trans (if_pos rfl)
theorem out_O (k : Fin 16) : (chO c k).view.read (Elt F) (outC m c) = scaled (facOv m c) k (expo m c k) := by
  funext x
  have h := fun a => (ValueKit.view_emb_slice_whole_unit_val cc0_stg1_0 (offO c k) S512x512.size (k0_off52_inb c k) x a).trans (congrArg (· + (x a).val) (congrFun (offO_eq c k) a))
  rw [View.read_apply]
  refine (out_at m c _ k x (1 - c.val % 2) ((h 0).trans (Nat.zero_add _)) (h 1)).trans (if_neg (by omega))

theorem out_split : (iprop(∃ f, pts c cc0_stg1_0 fullShare f) : sProp 𝕄) ⊢ iprop((bigSep Finset.univ fun k => anyF c (chM c k)) ∗ bigSep Finset.univ fun k => anyF c (chO c k)) := by
  unfold pts
  iintro ⟨%f, H⟩
  ihave H := (Entails.of_eq (Idealize.ShloMosaic.Ring.pointsTo_blocks (ℓ := (c : Thread nD τ).loc cc0_stg1_0) (chunkSet c) (chunk_disj c) (chunk_cover c) (q := fullShare) f)) $$ H
  ihave H := (Entails.of_eq (sep_sum _)) $$ H
  icases H with ⟨H, H'⟩
  isplitl [H]
  · iapply (show _ ⊢ _ from bigSep_mono fun k _ => any_of (F := F) c (chM c k) f); iexact H
  · iapply (show _ ⊢ _ from bigSep_mono fun k _ => any_of (F := F) c (chO c k) f); iexact H'
theorem out_join : iprop((bigSep Finset.univ fun k => ownsF c (chM c k) (scaled (facMv m c) k (expv m c k))) ∗ bigSep Finset.univ fun k => ownsF c (chO c k) (scaled (facOv m c) k (expo m c k)))
    ⊢ (pts c cc0_stg1_0 fullShare (outC m c) : sProp 𝕄) := by
  unfold pts
  iintro ⟨H, H'⟩
  iapply (Entails.of_eq (Idealize.ShloMosaic.Ring.pointsTo_blocks (ℓ := (c : Thread nD τ).loc cc0_stg1_0) (chunkSet c) (chunk_disj c) (chunk_cover c) (q := fullShare) (outC m c)).symm)
  iapply (Entails.of_eq (sep_sum _).symm)
  isplitl [H]
  · iapply (show _ ⊢ _ from bigSep_mono fun k _ => owns_at (F := F) c (chM c k) _ (outC m c) (out_M m c k)); iexact H
  · iapply (show _ ⊢ _ from bigSep_mono fun k _ => owns_at (F := F) c (chO c k) _ (outC m c) (out_O m c k)); iexact H'

/-! ## The weights: sixteen blocks -/

theorem mem_wBlk (k : Fin 16) (x : S1024x8192.Idx) : x ∈ (wBlk k).view.set ↔ (x 1).val / 512 = k.val := by
  refine (ValueKit.mem_set_slice_whole_iff main_arg1 _ _ Rect.mem_set_unit).trans ?_
  have h0 : (x 0).val < 1024 := (x 0).isLt
  constructor
  · intro hh
    have h1 : 512 * k.val ≤ (x 1).val ∧ (x 1).val < 512 * k.val + 512 := hh 1
    omega
  · intro hh a
    match a with
    | 0 => show 0 ≤ (x 0).val ∧ (x 0).val < 0 + 1024; omega
    | 1 => show 512 * k.val ≤ (x 1).val ∧ (x 1).val < 512 * k.val + 512; omega
def wSet (k : Fin 16) : Finset (Idx ((c : Thread nD τ).loc main_arg1)) := (wBlk k).view.set
theorem mem_wSet (k : Fin 16) (x : S1024x8192.Idx) : x ∈ wSet c k ↔ (x 1).val / 512 = k.val := mem_wBlk k x
theorem w_disj (b b' : Fin 16) (h : b ≠ b') : Disjoint (wSet c b) (wSet c b') :=
  Finset.disjoint_left.mpr fun x hx hx' => h (Fin.ext (((mem_wSet c b x).mp hx).symm.trans ((mem_wSet c b' x).mp hx')))
theorem w_cover : Finset.univ.biUnion (wSet c) = Finset.univ := by
  refine Finset.eq_univ_of_forall fun x => ?_
  have hx : (x 1).val < 8192 := (x 1).isLt
  exact Finset.mem_biUnion.mpr ⟨⟨(x 1).val / 512, by omega⟩, Finset.mem_univ _, (mem_wSet c _ x).mpr rfl⟩

theorem w_split : (pts c main_arg1 fullShare (m ((c : Thread nD τ).loc main_arg1)) : sProp 𝕄) ⊢ bigSep Finset.univ fun k => ownsF c (wBlk k) (wblk m c k) := by
  unfold pts
  iintro H
  ihave H := (Entails.of_eq (Idealize.ShloMosaic.Ring.pointsTo_blocks (ℓ := (c : Thread nD τ).loc main_arg1) (wSet c) (w_disj c) (w_cover c) (q := fullShare) (m ((c : Thread nD τ).loc main_arg1)))) $$ H
  iapply (show _ ⊢ _ from bigSep_mono fun k _ => owns_intro (c : Thread nD τ) (wBlk k) fullShare (m ((c : Thread nD τ).loc main_arg1))); iexact H
theorem w_join : (bigSep Finset.univ fun k => ownsF c (wBlk k) (wblk m c k)) ⊢ (pts c main_arg1 fullShare (m ((c : Thread nD τ).loc main_arg1)) : sProp 𝕄) := by
  unfold pts
  iintro H
  iapply (Entails.of_eq (Idealize.ShloMosaic.Ring.pointsTo_blocks (ℓ := (c : Thread nD τ).loc main_arg1) (wSet c) (w_disj c) (w_cover c) (q := fullShare) (m ((c : Thread nD τ).loc main_arg1))).symm)
  iapply (show _ ⊢ _ from bigSep_mono fun k _ => owns_at (F := F) c (wBlk k) _ (m ((c : Thread nD τ).loc main_arg1)) rfl); iexact H

/-! ## The two slots of the weights -/

theorem mem_slot (s : Fin 2) (x : S2x1024x512.Idx) : x ∈ (slotM s).view.set ↔ (x 0).val = s.val := by
  rw [show (slotM s).view.set = (wbM.slice (rSlot s) (fun _ => rfl)).view.set from View.set_reshape _ _]
  refine (ValueKit.mem_set_slice_whole_iff cc0_scratch1 _ _ Rect.mem_set_unit).trans ?_
  have h1 : (x 1).val < 1024 := (x 1).isLt
  have h2 : (x 2).val < 512 := (x 2).isLt
  constructor
  · intro hh
    have h0 : s.val ≤ (x 0).val ∧ (x 0).val < s.val + 1 := hh 0
    omega
  · intro hh a
    match a with
    | 0 => show s.val ≤ (x 0).val ∧ (x 0).val < s.val + 1; omega
    | 1 => show 0 ≤ (x 1).val ∧ (x 1).val < 0 + 1024; omega
    | 2 => show 0 ≤ (x 2).val ∧ (x 2).val < 0 + 512; omega
def slotSet (s : Fin 2) : Finset (Idx ((c : Thread nD τ).loc cc0_scratch1)) := (slotM s).view.set
theorem mem_slotSet (k : Fin 2) (x : S2x1024x512.Idx) : x ∈ slotSet c k ↔ (x 0).val = k.val := mem_slot k x
theorem slot_disj (b b' : Fin 2) (h : b ≠ b') : Disjoint (slotSet c b) (slotSet c b') :=
  Finset.disjoint_left.mpr fun x hx hx' => h (Fin.ext (((mem_slotSet c b x).mp hx).symm.trans ((mem_slotSet c b' x).mp hx')))
theorem slot_cover : Finset.univ.biUnion (slotSet c) = Finset.univ :=
  Finset.eq_univ_of_forall fun x => Finset.mem_biUnion.mpr ⟨⟨(x 0).val, (x 0).isLt⟩, Finset.mem_univ _, (mem_slotSet c _ x).mpr rfl⟩

theorem slot_split : (iprop(∃ f, pts c cc0_scratch1 fullShare f) : sProp 𝕄) ⊢ iprop(anyF c (slotM 0) ∗ anyF c (slotM 1)) := by
  unfold pts
  iintro ⟨%f, H⟩
  ihave H := (Entails.of_eq (Idealize.ShloMosaic.Ring.pointsTo_blocks (ℓ := (c : Thread nD τ).loc cc0_scratch1) (slotSet c) (slot_disj c) (slot_cover c) (q := fullShare) f)) $$ H
  ihave H := (Entails.of_eq (sep_fin2 _)) $$ H
  icases H with ⟨H, H'⟩
  isplitl [H]
  · iapply (any_of (F := F) c (slotM 0) f); iexact H
  · iapply (any_of (F := F) c (slotM 1) f); iexact H'
theorem slot_join : iprop(anyF c (slotM 0) ∗ anyF c (slotM 1)) ⊢ (iprop(∃ f, pts c cc0_scratch1 fullShare f) : sProp 𝕄) := by
  unfold pts
  iintro ⟨H, H'⟩
  ihave H := (some_of (F := F) c (slotM 0)) $$ H
  ihave H' := (some_of (F := F) c (slotM 1)) $$ H'
  icases H with ⟨%f, H⟩
  iapply (Idealize.ShloMosaic.Ring.pointsTo_blocks_join_exists (ℓ := (c : Thread nD τ).loc cc0_scratch1) (slotSet c) (slot_disj c) (slot_cover c) (q := fullShare) f)
  iapply (Entails.of_eq (sep_fin2 _).symm)
  isplitl [H]
  · iexists f; iexact H
  · iexact H'

/-! ## All of them -/

def wholes : sProp 𝕄 :=
  iprop(pts c cc0_stg0_0 fullShare (xstg m c) ∗ (∃ f, pts c cc0_stg1_0 fullShare f) ∗ pts c main_arg1 fullShare (m ((c : Thread nD τ).loc main_arg1))
    ∗ (∃ f, pts c cc0_scratch0 fullShare f) ∗ (∃ f, pts c cc0_scratch1 fullShare f) ∗ (∃ f, pts c cc0_scratch2 fullShare f) ∗ (∃ f, pts c cc0_scratch3 fullShare f))
def wholesOut : sProp 𝕄 :=
  iprop(pts c cc0_stg0_0 fullShare (xstg m c) ∗ pts c cc0_stg1_0 fullShare (outC m c) ∗ pts c main_arg1 fullShare (m ((c : Thread nD τ).loc main_arg1))
    ∗ (∃ f, pts c cc0_scratch0 fullShare f) ∗ (∃ f, pts c cc0_scratch1 fullShare f) ∗ (∃ f, pts c cc0_scratch2 fullShare f) ∗ (∃ f, pts c cc0_scratch3 fullShare f))

theorem to_parts : wholes m c ⊢ parts m c := by
  unfold wholes parts
  iintro ⟨Hx, Ho, Hw, H0, H1, H2, H3⟩
  ihave Ho := (out_split c) $$ Ho
  icases Ho with ⟨HM, HO⟩
  isplitl [Hx]; · iexact Hx
  isplitl [H0]; · iexact H0
  isplitl [H1]; · iapply (slot_split c); iexact H1
  isplitl [H2]; · iexact H2
  isplitl [H3]; · iexact H3
  isplitl [HM]; · iexact HM
  isplitl [HO]; · iexact HO
  iapply (w_split m c); iexact Hw
theorem of_parts : partsOut m c ⊢ wholesOut m c := by
  unfold wholesOut partsOut
  iintro ⟨Hx, H0, H1, H2, H3, HM, HO, Hw⟩
  isplitl [Hx]; · iexact Hx
  isplitl [HM HO]
  · iapply (out_join m c)
    isplitl [HM]; · iexact HM
    iexact HO
  isplitl [Hw]; · iapply (w_join m c); iexact Hw
  isplitl [H0]; · iexact H0
  isplitl [H1]; · iapply (slot_join c); iexact H1
  isplitl [H2]; · iexact H2
  iexact H3

end Cert.Softmax
-- ==== Proof.Deal.lean ====
/- What the launch deals: the cells, the tokens, and the credits. -/
module

public import proofs.«01_k».proof.Proof.Split

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens the launch mints -/

theorem cells_inj : Function.Injective (fun ck : Dev nD × CK => cell ck.1 ck.2) := fun a b h =>
  Prod.ext (cell_inj h).1 (cell_inj h).2
def allCells : Finset (GSem nD τ sig) := Finset.univ.map ⟨fun ck : Dev nD × CK => cell ck.1 ck.2, cells_inj⟩

theorem tk_inj : Function.Injective tk := by
  have h : ∀ a b : TK, (tk a).1 = (tk b).1 ∧ (tk a).2.1 = (tk b).2.1 ∧ (tk a).2.2 = (tk b).2.2 → a = b := by decide +kernel
  exact fun a b e => h a b ⟨by rw [e], by rw [e], by rw [e]⟩
/-- A token of a cell of `c`. -/
def tokAt (ct : Dev nD × TK) : GSem nD τ sig × ℕ × Bool := (cell ct.1 (tk ct.2).1, (tk ct.2).2.1, (tk ct.2).2.2)
theorem tokAt_inj : Function.Injective tokAt := fun a b h => by
  have h1 : a.1 = b.1 ∧ (tk a.2).1 = (tk b.2).1 := cell_inj (congrArg (fun x : GSem nD τ sig × ℕ × Bool => x.1) h)
  have h2 : (tk a.2).2 = (tk b.2).2 := congrArg (fun x : GSem nD τ sig × ℕ × Bool => x.2) h
  exact Prod.ext h1.1 (tk_inj (Prod.ext h1.2 h2))
def allToks : Finset (GSem nD τ sig × ℕ × Bool) := Finset.univ.map ⟨tokAt, tokAt_inj⟩

/-- The token of `t` at a cell of `c`. -/
def ownTok (c : Dev nD) (t : TK) : sProp 𝕄 := dutyTok ER (cell c (tk t).1) (tk t).2.1 (tk t).2.2

/-- Every token goes to the device that pays it. -/
theorem toks_around : (bigSep Finset.univ fun c : Dev nD => bigSep Finset.univ (ownTok (F := F) c)) = bigSep Finset.univ fun c : Dev nD => bigSep Finset.univ (payTok c) := by
  have h (Φ : Dev nD → TK → sProp 𝕄) : (bigSep Finset.univ fun c : Dev nD => bigSep Finset.univ (Φ c)) = bigSep Finset.univ fun t : TK => bigSep Finset.univ fun c => Φ c t := by
    rw [← bigSep_univ_prod (fun ct : Dev nD × TK => Φ ct.1 ct.2), ← bigSep_univ_prod (fun tc : TK × Dev nD => Φ tc.2 tc.1),
      bigSep_univ_equiv (Equiv.prodComm TK (Dev nD)) (fun ct : Dev nD × TK => Φ ct.1 ct.2)]
    rfl
  rw [h, h]
  exact bigSep_congr fun t _ => bigSep_univ_equiv (who t) (fun c => ownTok (F := F) c t)

/-! ## What is owed at the launch, cell by cell -/

theorem tally_cell (c' c : Dev nD) (k' k : CK) (n : ℕ) : (tallyAt (cell c' k') () n : CellTallies nD τ sig Unit) (cell c k) () = if c' = c ∧ k' = k then n else 0 := by
  rw [tallyAt_apply]
  by_cases h : c' = c ∧ k' = k
  · rw [if_pos h, if_pos ⟨by rw [h.1, h.2], rfl⟩]
  · rw [if_neg h, if_neg fun hh => h ⟨(cell_inj hh.1).1.symm, (cell_inj hh.1).2.symm⟩]

/-- What `d` owes the cells `k` of the device it sends family `i` to. -/
def owedQ (i : Fin 4) (d : Dev nD) (k : CK) : ℕ := ∑ j : Fin 16, if par d j = true ∧ kQ i j = k then No else 0
def owedOf (n : ℕ) (k' k : CK) : ℕ := if k' = k then n else 0

theorem sum_cell (d : Dev nD) (f : Fin 16 → CK) (e c : Dev nD) (k : CK) :
    (∑ j : Fin 16, if 0 ≤ j.val ∧ par d j = true then (tallyAt (cell e (f j)) () No : CellTallies nD τ sig Unit) else 0) (cell c k) ()
      = if e = c then ∑ j : Fin 16, if par d j = true ∧ f j = k then No else 0 else 0 := by
  rw [Finset.sum_apply, Finsupp.finset_sum_apply]
  by_cases h : e = c
  · rw [if_pos h]
    refine Finset.sum_congr rfl fun j _ => ?_
    by_cases hp : par d j = true
    · rw [if_pos ⟨Nat.zero_le _, hp⟩, tally_cell]
      by_cases hf : f j = k
      · rw [if_pos ⟨h, hf⟩, if_pos ⟨hp, hf⟩]
      · rw [if_neg fun hh => hf hh.2, if_neg fun hh => hf hh.2]
    · rw [if_neg fun hh => hp hh.2, if_neg fun hh => hp hh.1]; rfl
  · rw [if_neg h]
    refine Finset.sum_eq_zero fun j _ => ?_
    by_cases hp : par d j = true
    · rw [if_pos ⟨Nat.zero_le _, hp⟩, tally_cell, if_neg fun hh => h hh.1]
    · rw [if_neg fun hh => hp hh.2]; rfl

theorem owed_cell (d c : Dev nD) (k : CK) : ow₀ d (cell c k) ()
    = (if xnD d = c then owedQ 3 d k else 0) + (if ynD d = c then owedOf Ns (kSt 1) k else 0) + (if ynD d = c then owedQ 2 d k else 0)
      + (if ynD d = c then owedOf 1 kBar k else 0) + (if xnD d = c then owedOf 1 kBar k else 0) := by
  have hs (e : Dev nD) (k' : CK) (n : ℕ) : (tallyAt (cell e k') () n : CellTallies nD τ sig Unit) (cell c k) () = if e = c then owedOf n k' k else 0 := by
    rw [tally_cell]; unfold owedOf
    by_cases h : e = c
    · rw [if_pos h]; exact if_congr (and_iff_right h) rfl rfl
    · rw [if_neg h, if_neg fun hh => h hh.1]
  unfold ow₀ owB owA owSt owX owY owedQ
  rw [Pi.add_apply, Finsupp.add_apply, Pi.add_apply, Finsupp.add_apply, Pi.add_apply, Finsupp.add_apply, Pi.add_apply, Finsupp.add_apply, sum_cell, sum_cell, hs, hs, hs]

theorem sum_x (f : Dev nD → ℕ) (c : Dev nD) : (∑ d : Dev nD, if xnD d = c then f d else 0) = f (xnD c) := by
  rw [Finset.sum_eq_single (xnD c), if_pos (xn_xn c)]
  · exact fun d _ hd => if_neg fun h => hd (by rw [← h, xn_xn])
  · exact fun h => absurd (Finset.mem_univ _) h
theorem sum_y (f : Dev nD → ℕ) (c : Dev nD) : (∑ d : Dev nD, if ynD d = c then f d else 0) = f (ynD c) := by
  rw [Finset.sum_eq_single (ynD c), if_pos (yn_yn c)]
  · exact fun d _ hd => if_neg fun h => hd (by rw [← h, yn_yn])
  · exact fun h => absurd (Finset.mem_univ _) h

def total (c : Dev nD) (k : CK) : ℕ := owedQ 3 (xnD c) k + owedOf Ns (kSt 1) k + owedQ 2 (ynD c) k + owedOf 1 kBar k + owedOf 1 kBar k
theorem launch_cell (c : Dev nD) (k : CK) :
    tallyOn (cell c k) (launchCredit (Pipeline.owing ow₀) 0 (cell c k)) = (tallyAt (cell c k) () (total c k) : CellTallies nD τ sig Unit) := by
  unfold tallyAt; refine congrArg _ (Finsupp.ext fun u => ?_); cases u
  rw [Pipeline.launchCredit_owing, Finsupp.single_eq_same, Finset.sum_congr rfl fun d _ => owed_cell d c k,
    Finset.sum_add_distrib, Finset.sum_add_distrib, Finset.sum_add_distrib, Finset.sum_add_distrib, sum_x, sum_x, sum_y, sum_y, sum_y]
  rfl

theorem kQ_ne_bar (i : Fin 4) (k : Fin 16) : kQ i k ≠ kBar := fun h => Sum.inl_ne_inr h
theorem kQ_ne_st (i : Fin 4) (k : Fin 16) (s : Fin 2) : kQ i k ≠ kSt s := fun h => Sum.inl_ne_inr (Sum.inl.inj h)
theorem owedQ_other (i : Fin 4) (d : Dev nD) (k : CK) (h : ∀ j, kQ i j ≠ k) : owedQ i d k = 0 := Finset.sum_eq_zero fun j _ => if_neg fun hh => h j hh.2
theorem owedQ_self (i : Fin 4) (d : Dev nD) (k : Fin 16) : owedQ i d (kQ i k) = if par d k = true then No else 0 := by
  unfold owedQ
  rw [Finset.sum_eq_single k]
  · exact if_congr (and_iff_left rfl) rfl rfl
  · exact fun j _ hj => if_neg fun hh => hj (congrArg Prod.snd (Sum.inl.inj (Sum.inl.inj hh.2)))
  · exact fun h => absurd (Finset.mem_univ _) h
theorem owedOf_other (n : ℕ) (k' k : CK) (h : k' ≠ k) : owedOf n k' k = 0 := if_neg h

theorem total_bar (c : Dev nD) : total c kBar = 2 := by
  unfold total
  rw [owedQ_other _ _ _ fun j => kQ_ne_bar 3 j, owedQ_other _ _ _ fun j => kQ_ne_bar 2 j, owedOf_other _ _ _ (fun h => Sum.inl_ne_inr h), show owedOf 1 kBar kBar = 1 from if_pos rfl]
theorem total_st (c : Dev nD) : total c (kSt 1) = Ns := by
  unfold total
  rw [owedQ_other _ _ _ fun j => kQ_ne_st 3 j 1, owedQ_other _ _ _ fun j => kQ_ne_st 2 j 1, owedOf_other _ _ _ (fun h => Sum.inr_ne_inl h), show owedOf Ns (kSt 1) (kSt 1) = Ns from if_pos rfl]
  simp only [Nat.zero_add, Nat.add_zero]
theorem kQ_ne (i j : Fin 4) (h : i ≠ j) (k k' : Fin 16) : kQ i k ≠ kQ j k' := fun hh => h (congrArg Prod.fst (Sum.inl.inj (Sum.inl.inj hh)))
theorem total_Q2 (c : Dev nD) (k : Fin 16) : total c (kQ 2 k) = if par c k = true then No else 0 := by
  unfold total
  rw [owedQ_other _ _ _ fun j => kQ_ne 3 2 (by decide) j k, owedQ_self, owedOf_other _ _ _ (fun h => (kQ_ne_st 2 k 1) h.symm), owedOf_other _ _ _ (fun h => (kQ_ne_bar 2 k) h.symm), par_yn]
  simp only [Nat.zero_add, Nat.add_zero]
theorem total_Q3 (c : Dev nD) (k : Fin 16) : total c (kQ 3 k) = if par c k = true then 0 else No := by
  unfold total
  rw [owedQ_other _ _ _ fun j => kQ_ne 2 3 (by decide) j k, owedQ_self, owedOf_other _ _ _ (fun h => (kQ_ne_st 3 k 1) h.symm), owedOf_other _ _ _ (fun h => (kQ_ne_bar 3 k) h.symm), par_xn]
  simp only [Nat.zero_add, Nat.add_zero]
  cases par c k <;> rfl

/-- The credits of the launch are those the body waits with. -/
theorem creds (c : Dev nD) : (Pipeline.launchCred ow₀ c : sProp 𝕄) ⊢ credits c := by
  have h1 : (Pipeline.launchCred ow₀ c : sProp 𝕄) ⊢ bigSep Finset.univ fun k : CK => cred (tallyAt (cell c k) () (total c k)) := by
    unfold Pipeline.launchCred
    refine (bigSep_subset (Finset.subset_univ (Finset.univ.map ⟨csem, csem_inj⟩))).trans ?_
    rw [bigSep_map]
    exact bigSep_mono fun k _ => Entails.of_eq (congrArg cred (launch_cell c k))
  refine h1.trans ?_
  rw [sep_cells, total_bar, total_st]
  unfold credits
  iintro ⟨⟨⟨-, -, H2, H3⟩, -, -, Hs⟩, Hb⟩
  isplitl [Hb]; · iexact Hb
  isplitl [Hs]; · iexact Hs
  isplitl [H2]
  · iapply (show _ ⊢ _ from bigSep_mono fun k _ => show (cred (tallyAt (cell c (kQ 2 k)) () (total c (kQ 2 k))) : sProp 𝕄) ⊢ (if par c k then cred (tallyAt (cell c (kQ 2 k)) () No) else iprop(emp)) from by
      rw [total_Q2]
      by_cases h : par c k = true
      · rw [if_pos h, if_pos h]
      · rw [if_neg h, if_neg h]; iintro -; iempintro)
    iexact H2
  · iapply (show _ ⊢ _ from bigSep_mono fun k _ => show (cred (tallyAt (cell c (kQ 3 k)) () (total c (kQ 3 k))) : sProp 𝕄) ⊢ (if par c k then iprop(emp) else cred (tallyAt (cell c (kQ 3 k)) () No)) from by
      rw [total_Q3]
      by_cases h : par c k = true
      · rw [if_pos h, if_pos h]; iintro -; iempintro
      · rw [if_neg h, if_neg h])
    iexact H3

end Cert.Softmax
-- ==== Proof.Launch.lean ====
/- The launch: what each device is dealt, the body's obligation, and the whole run. -/
module

public import Idealize.ShloMosaic.Lib.Pipeline.CollectiveSegs
public import proofs.«01_k».proof.Proof.Deal

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The proof data of the one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

section Device

variable (K : Dev nD × CK → ℕ) (c : Dev nD)

/-- What stays with `c`: its positions, and the tokens of the duties it pays. -/
def mine : sProp 𝕄 := iprop((bigSep Finset.univ fun k : CK => at₀ c k 0) ∗ bigSep Finset.univ (payTok c))
/-- What the deal leaves with `c`: every cell's record, at some names, and what is its own. -/
def dealt : sProp 𝕄 := iprop(∃ K, records m K ∗ mine c)
def weights : sProp 𝕄 := pts c main_arg1 fullShare (m ((c : Thread nD τ).loc main_arg1))
def scratch : sProp 𝕄 :=
  iprop((∃ f, pts c cc0_scratch0 fullShare f) ∗ (∃ f, pts c cc0_scratch1 fullShare f) ∗ (∃ f, pts c cc0_scratch2 fullShare f) ∗ (∃ f, pts c cc0_scratch3 fullShare f))
def start : sProp 𝕄 := iprop(dealt m c ∗ credits c ∗ levAts L lv ∗ weights m c)
def before₀ : sProp 𝕄 := iprop(start m c ∗ scratch c)
def after₁ : sProp 𝕄 := iprop((bigSep Finset.univ fun k : CK => semVal (cell c k) 0) ∗ weights m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outC m c
  Φ t := match t with
    | ⟨0, _⟩ => before₀ m c
    | ⟨_ + 1, _⟩ => after₁ m c
  q _ := fullShare
  owed t := match t with
    | ⟨0, _⟩ => ow₀ c
    | ⟨_ + 1, _⟩ => 0

theorem sep_windows (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl
theorem owns_buf (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ pts c b fullShare f) := by
  unfold owns pts; simp only [Memref.view_whole, View.read_whole, View.set_whole]
abbrev stg (b : Ref sig .tc) (X : b.ty.Contents (Elt F)) : sProp 𝕄 := iprop(∃ f, ⌜f = X⌝ ∗ pts c b fullShare f)

/-! ## The body's obligation -/

def bodyPre : sProp 𝕄 :=
  iprop(before₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))
def bodyPost : sProp 𝕄 :=
  iprop(after₁ m c ∗ (dats m 0 c).owesAt () t₀.succ ∗ stg c cc0_stg0_0 (xstg m c) ∗ stg c cc0_stg1_0 (outC m c))

theorem sound_body : bodyPre m c ⊢ wp frame (wpE (defs₀ (F := F)) 𝒱₀ (c : Thread nD τ) none) Set.univ (theBody (F := F)) (fun _ => bodyPost m c) := by
  rw [body_eqC, wp_deviceId]
  unfold bodyPre before₀ start dealt mine scratch weights Dat.owesAt Pipeline.owesWithin
  rw [show (dats m 0 c).owed t₀.castSucc = ow₀ c from rfl]
  iintro ⟨⟨⟨⟨%K, #HR, Hat, Htk⟩, Hcr, #Hlev, Hw⟩, H0, H1, H2, H3⟩, ⟨%W, %hW, Ho⟩, ⟨%d, %fx, %hx, Hx⟩, ⟨%d', %fo, %ho, Hout⟩⟩
  have hx' : fx = xstg m c := by
    rw [hx]; unfold Dat.before; rw [if_pos (fetch_0 t₀)]; rfl
  subst hx'
  iapply (body_runs m K c)
  isplitr
  · unfold ctx
    isplitr; · iexact HR
    iexact Hlev
  isplitr []
  · unfold bodyIn ow
    isplitl [Ho]; · iexists W; iexact Ho
    isplitl [Htk]; · iexact Htk
    isplitl [Hat]; · iexact Hat
    isplitl [Hcr]; · iexact Hcr
    iapply (to_parts m c)
    unfold wholes
    isplitl [Hx]; · iexact Hx
    isplitl [Hout]; · iexists _; iexact Hout
    isplitl [Hw]; · iexact Hw
    isplitl [H0]; · iexact H0
    isplitl [H1]; · iexact H1
    isplitl [H2]; · iexact H2
    iexact H3
  unfold bodyOut bodyPost after₁ scratch weights Dat.owesAt Pipeline.owesWithin ow
  rw [show (dats m 0 c).owed t₀.succ = 0 from rfl]
  iintro ⟨⟨%W', Ho⟩, Hz, HP⟩
  ihave HP := (of_parts m c) $$ HP
  unfold wholesOut
  icases HP with ⟨Hx, Hout, Hw, H0, H1, H2, H3⟩
  isplitl [Hz Hw H0 H1 H2 H3]
  · isplitl [Hz]; · iexact Hz
    isplitl [Hw]; · iexact Hw
    isplitl [H0]; · iexact H0
    isplitl [H1]; · iexact H1
    isplitl [H2]; · iexact H2
    iexact H3
  isplitl [Ho]
  · iexists W'
    isplitr; · ipureintro; exact fun _ _ => Or.inl trivial
    iexact Ho
  isplitl [Hx]
  · iexists _; isplitr; · (ipureintro; rfl)
    iexact Hx
  iexists _; isplitr; · (ipureintro; rfl)
  iexact Hout

set_option maxRecDepth 4000 in
theorem body_obligation : BodyObligation (dats (F := F) m 0 c) (defs₀ (F := F)) 𝒱₀ () Set.univ := fun t => by
  rw [fin_N t]
  rw [sep_windows, sep_windows]
  simp only [owns_buf]
  exact sound_body m c

end Device

/-! ## The launch -/

theorem ownSemFacts : Pipeline.OwnSemFacts cfg0.spec osem := by decide +kernel
theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

def G (c : Dev nD) : sProp 𝕄 :=
  iprop((bigSep Finset.univ fun k : CK => roundState ER (sched m) (cell c k) 0)
    ∗ (bigSep Finset.univ fun k : CK => at₀ c k 0) ∗ (bigSep Finset.univ fun k : CK => reached ER (cell c k) 0) ∗ bigSep Finset.univ (ownTok c))

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => bigSep Finset.univ (ownTok c) := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [sep_two, sep_two, sep_two]
  isplitl [Hst']; · iexact Hst'
  isplitl [Hat']; · iexact Hat'
  isplitl [Hr']; · iexact Hr'
  iexact Htok'

theorem unscopedSems0_eq (c : Dev nD) : (unscopedSems0 c : sProp 𝕄) = semVal (cell c kBar) 0 := by
  unfold unscopedSems0; rw [bigSep_eq_bigSepL_of_eq [SemLoc.reg barS] (by decide +kernel) (by decide)]; rfl
theorem sems_eq (c : Dev nD) :
    iprop(Pipeline.ownSems0 (Ix := Unit) (Name := ℕ) (U := UU) (Lvl := ℕ) (Val := Elt F) (τ := τ) osem c ∗ unscopedSems0 c)
      = (bigSep Finset.univ fun k : CK => semVal (cell c k) 0 : sProp 𝕄) := by
  rw [sep_sum, sep_unit, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (cell c k)))
          ∗ (bigSep Finset.univ fun k : CK => at₀ c k 0) ∗ (bigSep Finset.univ fun k : CK => reached ER (cell c k) 0) ∗ bigSep Finset.univ (ownTok c)) := by
  unfold G
  iintro ⟨Hos, Hus, Hst, Hrest⟩
  ihave Hv := (Entails.of_eq (sems_eq (F := F) c)) $$ [Hos Hus]
  · isplitl [Hos] <;> iassumption
  imod (show iprop((bigSep Finset.univ fun k : CK => semVal (cell c k) 0) ∗ bigSep Finset.univ fun k : CK => roundState ER (sched m) (cell c k) 0)
      ⊢ (|={Set.univ}=> bigSep Finset.univ fun k => iprop(∃ κ : ℕ, cellInv ER (sched m) κ (cell c k)) : sProp 𝕄) from by
        rw [← sep_two]
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  iexact Hrest

theorem regroup :
    (bigSep Finset.univ fun c : Dev nD => iprop((bigSep Finset.univ fun k : CK => iprop(∃ κ : ℕ, cellInv ER (sched m) κ (cell c k)))
          ∗ (bigSep Finset.univ fun k : CK => at₀ c k 0) ∗ (bigSep Finset.univ fun k : CK => reached ER (cell c k) 0) ∗ bigSep Finset.univ (ownTok c)) : sProp 𝕄)
      ⊢ bigSep Finset.univ (dealt m) := by
  rw [sep_two, sep_two, sep_two, ← bigSep_univ_prod (fun ck : Dev nD × CK => iprop(∃ κ : ℕ, cellInv ER (sched m) κ (cell ck.1 ck.2))),
    ← bigSep_univ_prod (fun ck : Dev nD × CK => (reached ER (cell ck.1 ck.2) 0 : sProp 𝕄)), toks_around]
  iintro ⟨HI, Hat, #HR, Htok⟩
  ihave HK := (BI.bigSep_exists_pi Finset.univ (fun (ck : Dev nD × CK) (κ : ℕ) => (cellInv ER (sched m) κ (cell ck.1 ck.2) : sProp 𝕄))) $$ HI
  icases HK with ⟨%K, #HI⟩
  iapply (show iprop(records m K ∗ bigSep Finset.univ (mine (F := F))) ⊢ bigSep Finset.univ (dealt m) from
    (sep_mono_left (BI.bigSep_of_persistent Finset.univ (records m K))).trans (by
      show iprop((bigSep Finset.univ fun _ : Dev nD => records m K) ∗ bigSep Finset.univ (mine (F := F))) ⊢ _
      rw [← sep_two]
      refine bigSep_mono fun c _ => ?_
      show iprop(records m K ∗ mine c) ⊢ dealt m c
      unfold dealt
      iintro H; iexists K; iexact H))
  isplitr
  · unfold records
    isplitr; · iexact HI
    iexact HR
  · rw [show mine (F := F) = fun c => iprop((bigSep Finset.univ fun k : CK => at₀ c k 0) ∗ bigSep Finset.univ (payTok c)) from rfl, sep_two]
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred ow₀ c ∗ prngReg c (ρ c) ∗ dealt m c)
      ⊢ |={Set.univ}=> iprop(start m c ∗ emp) := by
  rw [Pipeline.unscopedRestP_none, show cfg0.spec = spec0 from rfl, unscopedRest0_eq]
  iintro ⟨Hw, Hlev, Hcr, -, HG⟩
  ihave Hc := (creds (F := F) c) $$ Hcr
  imodintro
  unfold start weights pts
  isplitl
  · isplitl [HG]; · iexact HG
    isplitl [Hc]; · iexact Hc
    isplitl [Hlev]; · iexact Hlev
    iexact Hw
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, show cfg0.spec = spec0 from rfl, scopedRest0_eq]
  unfold before₀ scratch pts
  iintro ⟨Hs, -, Hr⟩
  isplitl [Hs]; · iexact Hs
  iexact Hr

theorem last_exit (c : Dev nD) :
    (dats m 0 c).Φ (Fin.last cfg0.N) ⊢ iprop((unscopedSems0 c ∗ weights m c) ∗ Pipeline.ownSems0 osem c ∗ Pipeline.scopedRest cfg0.spec c) := by
  rw [show (dats m 0 c).Φ (Fin.last cfg0.N) = after₁ m c from rfl, show cfg0.spec = spec0 from rfl, scopedRest0_eq]
  unfold after₁
  rw [← sems_eq]
  unfold scratch pts
  iintro ⟨⟨Ho, Hu⟩, Hw, Hr⟩
  isplitl [Hu Hw]
  · isplitl [Hu]; · iexact Hu
    iexact Hw
  isplitl [Ho]; · iexact Ho
  iexact Hr

theorem stage_level : ∀ (w : Fin 2) (s : Fin (cfg0.win w).nbuf), ∀ k : CK, csem k ≠ .dma ((cfg0.win w).sem s) := by decide +kernel

theorem waits (c : Dev nD) : (levAts L lv : sProp 𝕄) ⊢ Pipeline.cellsWaits cfgs (dats m) () 0 c :=
  Pipeline.cellsWaits_intro cfgs (dats m) () 0 c fun w s t =>
    mayWait c _ 0 _ (by
      rw [show dec _ = none from dif_neg fun ⟨k, hk⟩ => stage_level w s k hk]; exact le_refl 0) (by
      rcases t with ⟨_ | _, ht⟩
      · exact above_ow₀ c
      · exact above_zero 0)

/-! ## The run -/

def endsAt (c : Dev nD) (w : Fin cfg0.W) : Buf (Elt F) ((cfg0.win w).arr.view.loc (c : Thread nD τ)) := (dats m 0 c).arrAt w cfg0.N

/-- What a final state is: each array at its computed contents, the weights as they were, and all counters at zero. -/
def Ends (r : PUnit × MemSt nD τ sig (Elt F)) : Prop :=
  (∀ c : Dev nD, (∀ w : Fin cfg0.W, r.2.mem ((cfg0.win w).arr.view.loc (c : Thread nD τ)) = endsAt m c w)
    ∧ r.2.mem ((c : Thread nD τ).loc main_arg1) = m ((c : Thread nD τ).loc main_arg1)) ∧ r.2.sem = fun _ => 0

set_option maxRecDepth 8000 in
/-- The kernel runs to its end on the four devices, from any memory, under every fair scheduling. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := ow₀) (howed₀ := fun _ => rfl) (howedN := fun _ => rfl)
    (L := L) (lv := lv) (hL := L_of_ne) (hwaits := waits m)
    (G := G m) (G' := dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := first_intro m) (hout := last_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold weights pts
      iintro ⟨⟨Hu, Hw⟩, -, HSI⟩
      icombine HSI Hw gives %hw
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ hw⟩
      iexact HSI)
    (hQ := fun _ h hs => ⟨fun c => ⟨fun w => (h c).1 w, (h c).2.2.2⟩, sem_eq_zero hs fun c => (h c).2.2.1⟩)

end Cert.Softmax
-- ==== Proof.Frames.lean ====
/- The frames of both readings of the kernel. -/
module

public import proofs.«01_k».proof.Proof.Gen.ReferenceIdeal.Run
public import proofs.«01_k».proof.Defs
public import proofs.«01_k».proof.Proof.Gen.Kernel
public import proofs.«01_k».proof.Proof.Launch

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem endsAt_x (c : Dev nD) : endsAt m c (0 : Fin 2) = m ((c : Thread nD τ).loc main_arg0) :=
  (dats m 0 c).arrAt_in (0 : Fin 2) rfl _

/-- The program's run, with both arguments as they were and every counter back at zero. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (0 : Fin 2)).trans (endsAt_x m c), (h.1 c).2⟩, h.2⟩) (run_main m ρ)

theorem frame_kernelIdeal : Cert.quiescent_KernelIdeal := fun m ρ _ => run_frame m ρ
/-! The machine program is the same text as the idealized one, so its run is the other's at machine floats. -/

set_option maxRecDepth 100000

theorem body_same : Cert.Kernel.cc0_body (F := Bits) = Cert.KernelIdeal.cc0_body := rfl
theorem defs₀_same : Cert.Kernel.defs₀ (F := Bits) = Cert.KernelIdeal.defs₀ :=
  congrArg (Defs.onTc (nD := Cert.KernelIdeal.nD) (τ := Cert.KernelIdeal.τ) (sig := Cert.KernelIdeal.sig) (Val := Elt Bits) (Λ := Cert.KernelIdeal.Λ₀)) (funext fun ℓ => funext fun a => by
    obtain ⟨_ | n, h⟩ := ℓ
    · obtain ⟨t, s⟩ := a
      exact congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _
    · omega)
theorem defs_same : Cert.Kernel.defs (F := Bits) = Cert.KernelIdeal.defs :=
  congrArg (Pipeline.defs (Cert.KernelIdeal.pcfgs (F := Bits))) defs₀_same
theorem main_same : Cert.Kernel.main (F := Bits) = Cert.KernelIdeal.main := rfl

theorem frame_kernel : Cert.quiescent_Kernel := fun m ρ _ =>
  (congrArg (fun D => θ_run D (onTc (τ := τ) (main (F := Bits))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)) ∧ r.2.sem = fun _ => 0)) defs_same).mpr (run_frame m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Softmax
-- ==== Proof.Reals.lean ====
/- The softmax over the real numbers: whatever real number is subtracted from the logits, the quotient is the same. -/
module

public import Idealize.ShloMosaic.Lib.Pointwise
public import Idealize.ShloMosaic.PureOps.Ideal.Laws

@[expose] public section

noncomputable section

namespace Cert.Softmax

open Idealize.ShloMosaic

/-- A sum of real numbers, as extended reals, is the real sum. -/
theorem sum_coe {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The maximum of finitely many, and at least one, real numbers is a real number. -/
theorem fold_max_coe {ι : Type} [Fintype ι] [Nonempty ι] (f : ι → ℝ) :
    ∃ r : ℝ, Finset.univ.fold max (⊥ : EReal) (fun i => (f i : EReal)) = r := by
  classical
  have h : ∀ s : Finset ι, s.fold max (⊥ : EReal) (fun i => (f i : EReal)) ≠ ⊤ := by
    intro s
    refine ne_of_lt ((Finset.fold_max_lt _).2 ⟨bot_lt_top, fun i _ => EReal.coe_lt_top _⟩)
  have h' : Finset.univ.fold max (⊥ : EReal) (fun i => (f i : EReal)) ≠ ⊥ := by
    refine ne_of_gt ((Finset.lt_fold_max _).2 (Or.inr ⟨Classical.arbitrary ι, Finset.mem_univ _, EReal.bot_lt_coe _⟩))
  exact ⟨_, (EReal.coe_toReal (h _) h').symm⟩

/-- The softmax's quotient does not depend on the number subtracted. -/
theorem shift {ι : Type} [Fintype ι] (l : ι → ℝ) (M : ℝ) (j : ι) :
    Real.exp (l j - M) * (∑ i, Real.exp (l i - M))⁻¹ = Real.exp (l j) * (∑ i, Real.exp (l i))⁻¹ := by
  have h : ∑ i, Real.exp (l i - M) = Real.exp (-M) * ∑ i, Real.exp (l i) := by
    rw [Finset.mul_sum]; exact Finset.sum_congr rfl fun i _ => by rw [← Real.exp_add]; congr 1; ring
  rw [h, show l j - M = -M + l j by ring, Real.exp_add, mul_inv, mul_mul_mul_comm, mul_inv_cancel₀ (Real.exp_ne_zero _), one_mul]

/-- A column of the result, by its half, its chunk in the half, and its column in the chunk. -/
def colOf (n : Fin 2) (k : Fin 16) (q : Fin 512) : Fin 16384 := ⟨512 * (16 * n.val + k.val) + q.val, by omega⟩

/-- The columns are the halves' chunks' columns. -/
def colEquiv : (Fin 2 × Fin 16) × Fin 512 ≃ Fin 16384 where
  toFun p := colOf p.1.1 p.1.2 p.2
  invFun j := ((⟨j.val / 512 / 16, by omega⟩, ⟨j.val / 512 % 16, by omega⟩), ⟨j.val % 512, by omega⟩)
  left_inv := by
    rintro ⟨⟨n, k⟩, q⟩
    simp only [colOf, Prod.mk.injEq, Fin.ext_iff]
    refine ⟨⟨?_, ?_⟩, ?_⟩ <;> omega
  right_inv j := by simp only [colOf, Fin.ext_iff]; omega

theorem sum_cols (f : Fin 16384 → ℝ) : ∑ j, f j = ∑ n : Fin 2, ∑ k : Fin 16, ∑ q : Fin 512, f (colOf n k q) := by
  rw [← Equiv.sum_comp colEquiv, Fintype.sum_prod_type, Fintype.sum_prod_type]; rfl

/-- One half's share of the denominator: the chunks' sums, each brought from its own maximum to `M`. -/
theorem half_sum (l : Fin 16 → Fin 512 → ℝ) (μ : Fin 16 → ℝ) (M : ℝ) :
    ∑ k, (∑ q, Real.exp (l k q - μ k)) * Real.exp (μ k - M) = ∑ k, ∑ q, Real.exp (l k q - M) := by
  refine Finset.sum_congr rfl fun k _ => ?_
  rw [Finset.sum_mul]
  exact Finset.sum_congr rfl fun q _ => by rw [← Real.exp_add]; congr 1; ring

end Cert.Softmax

end
-- ==== Proof.Reads.lean ====
/- The kernel's payloads over the extended reals, read at an entry. -/
module

public import proofs.«01_k».proof.Proof.Steps
public import proofs.«01_k».proof.Proof.Reals

@[expose] public section

set_option maxRecDepth 16384

noncomputable section

namespace Cert.Softmax

open Cert.KernelIdeal Cert.KernelIdeal.Gen
open Idealize.ShloMosaic Idealize.ShloMosaic.TcCoe

/-- The pattern of minus infinity. -/
theorem ofBits_bot : Ideal.ofBits .f32 0xFF800000#32 = ⊥ := by simp [Ideal.ofBits, Ideal.ieee]
/-- The pattern of plus infinity. -/
theorem ofBits_top : Ideal.ofBits .f32 0x7F800000#32 = ⊤ := by simp [Ideal.ofBits, Ideal.ieee]

variable (w : Vec Ideal S1x1024x512 .f32) (xb : Vec Ideal S512x1024 .bf16)

theorem pay2_at (x : Vec Ideal S512x1024 .f32) (i : S512x1024.Idx) : k0_pay2 (F := Ideal) x i = x i := by
  pointwise [k0_pay2]

theorem pay3_at (i q : Fin 512) : k0_pay3 w xb (ix2 i q) = ∑ a : Fin 1024, xb (ix2 i a) * w (ix3 0 a q) := by
  pointwise [k0_pay3]

theorem pay4_at (i : Fin 512) : k0_pay4 w xb (ix2 i 0) = Finset.univ.fold max (⊥ : EReal) fun q : Fin 512 => k0_pay3 w xb (ix2 i q) := by
  pointwise [k0_pay4]
  rw [show Ideal.ofBits .f32 (4286578688#32 : BitVec 32) = ⊥ from ofBits_bot]

theorem pay5_at (i q : Fin 512) : k0_pay5 w xb (ix2 i q) = Ideal.exp (k0_pay3 w xb (ix2 i q) - k0_pay4 w xb (ix2 i 0)) := by
  pointwise [k0_pay5]

theorem pay6_at (i : Fin 512) : k0_pay6 w xb (ix3 0 i 0) = k0_pay4 w xb (ix2 i 0) := by
  pointwise [k0_pay6]

theorem pay7_at (i : Fin 512) : k0_pay7 w xb (ix3 0 i 0) = ∑ q : Fin 512, k0_pay5 w xb (ix2 i q) := by
  pointwise [k0_pay7]

theorem pay8_at (v : FVec Ideal S512x512 .f32) (p : S512x512.Idx) : k0_pay8 v p = v p := by
  pointwise [k0_pay8]

variable (a b p q : Vec Ideal S1x512x16 .f32)

theorem pay110_at (i : Fin 512) : k0_pay110 a p (ix2 i 0)
    = max (Finset.univ.fold max (⊥ : EReal) fun k : Fin 16 => a (ix3 0 i k)) (Finset.univ.fold max (⊥ : EReal) fun k : Fin 16 => p (ix3 0 i k)) := by
  pointwise [k0_pay110, k0_pay106, k0_pay108]
  rw [show Ideal.ofBits .f32 (4286578688#32 : BitVec 32) = ⊥ from ofBits_bot]

theorem pay114_at (i : Fin 512) : k0_pay114 (k0_pay106 a) (k0_pay107 b) (k0_pay108 p) (k0_pay109 q) (k0_pay110 a p) (k0_pay111 a p) (ix2 i 0)
    = Ideal.div 1 ((∑ k : Fin 16, b (ix3 0 i k) * Ideal.exp (a (ix3 0 i k) - k0_pay110 a p (ix2 i 0)))
        + ∑ k : Fin 16, Ideal.exp (p (ix3 0 i k) - k0_pay110 a p (ix2 i 0)) * q (ix3 0 i k)) := by
  pointwise [k0_pay114, k0_pay106, k0_pay107, k0_pay108, k0_pay109, k0_pay111, k0_pay112, k0_pay113]

theorem facM_at (i : Fin 512) (k : Fin 16) : facM a b p q (ix2 i k) = Ideal.exp (a (ix3 0 i k) - k0_pay110 a p (ix2 i 0))
    * k0_pay114 (k0_pay106 a) (k0_pay107 b) (k0_pay108 p) (k0_pay109 q) (k0_pay110 a p) (k0_pay111 a p) (ix2 i 0) := by
  pointwise [facM, k0_pay115, k0_pay112, k0_pay111, k0_pay106]

theorem facO_at (i : Fin 512) (k : Fin 16) : facO a b p q (ix2 i k) = Ideal.exp (p (ix3 0 i k) - k0_pay110 a p (ix2 i 0))
    * k0_pay114 (k0_pay106 a) (k0_pay107 b) (k0_pay108 p) (k0_pay109 q) (k0_pay110 a p) (k0_pay111 a p) (ix2 i 0) := by
  pointwise [facO, k0_pay116, k0_pay113, k0_pay108]

theorem scaled_at (fac : FVec Ideal S512x16 .bf16) (k : Fin 16) (v : Vec Ideal S512x512 .bf16) (i q : Fin 512) :
    scaled fac k v (ix2 i q) = v (ix2 i q) * fac (ix2 i k) := by
  pointwise [scaled]

end Cert.Softmax

end
-- ==== Proof.Finite.lean ====
/- The precondition, read: no entry of either argument is infinite. -/
module

public import proofs.«01_k».proof.Pre_finite_KernelIdeal
public import proofs.«01_k».proof.Proof.Gen.Pre_finite_KernelIdeal
public import proofs.«01_k».proof.Proof.Reads

@[expose] public section

set_option maxRecDepth 16384

noncomputable section

namespace Cert.Softmax

open Idealize.ShloMosaic

/-- A maximum of absolute values below infinity leaves no entry infinite. -/
theorem real_of_max {s s' u : Shape} {axes : List (Fin s.rank)} (x : FVec Ideal s .f32) (h : s.ReducesTo axes s') (hu : 0 < u.numel) (j : s'.Idx)
    (hall : ∀ i, h.drop i = j)
    (hx : Host.reduce (FloatOps.maximumf (F := Ideal) (φ := .f32)) (Host.absf x) (constant (F := Ideal) u .f32 0xFF800000#32) h hu j < (⊤ : EReal))
    (i : s.Idx) : ∃ r : ℝ, x i = (r : EReal) := by
  rw [Host.reduce_eq_fold] at hx
  have hi : max (x i) (-(x i)) < (⊤ : EReal) := ((Finset.fold_max_lt _).1 hx).2 i (Finset.mem_filter.2 ⟨Finset.mem_univ _, hall i⟩)
  obtain ⟨h1, h2⟩ := max_lt_iff.1 hi
  refine ⟨EReal.toReal (x i), (EReal.coe_toReal h1.ne fun hb => ?_).symm⟩
  rw [hb, EReal.neg_bot] at h2
  exact lt_irrefl _ h2

theorem and_one {s : Shape} (u v : IVec s 1) (i : s.Idx) (h : andi u v i = 1#1) : u i = 1#1 ∧ v i = 1#1 := by
  have hand : ∀ a b : BitVec 1, a &&& b = 1#1 → a = 1#1 ∧ b = 1#1 := by decide
  exact hand _ _ h

theorem lt_one {s : Shape} (x y : FVec Ideal s .f32) (i : s.Idx) (h : cmpf .olt x y i = 1#1) : (x i : EReal) < y i := by
  by_contra hn
  have h' : Ideal.cmp .olt (x i) (y i) = 1#1 := h
  simp [Ideal.cmp, hn] at h'

theorem finite_entries (x : FVec Ideal Cert.Pre_finite_KernelIdeal.S512x1024 .f32) (w : FVec Ideal Cert.Pre_finite_KernelIdeal.S1024x8192 .f32)
    (h : Cert.Pre_finite_KernelIdeal.fn (F := Ideal) x w = fun _ => 1#1) :
    (∀ i, ∃ r : ℝ, x i = (r : EReal)) ∧ ∀ i, ∃ r : ℝ, w i = (r : EReal) := by
  have h0 := congrFun h ix0
  unfold Cert.Pre_finite_KernelIdeal.fn at h0
  obtain ⟨ha, hb⟩ := and_one _ _ _ h0
  have htop : ∀ i, constant (F := Ideal) Cert.Pre_finite_KernelIdeal.S_ .f32 0x7F800000#32 i = (⊤ : EReal) := fun _ => ofBits_top
  exact ⟨real_of_max x _ _ ix0 (fun i => ValueIdx.eq_ix0 _) ((lt_one _ _ _ ha).trans_eq (htop _)),
    real_of_max w _ _ ix0 (fun i => ValueIdx.eq_ix0 _) ((lt_one _ _ _ hb).trans_eq (htop _))⟩

end Cert.Softmax

end
-- ==== Proof.Contents.lean ====
/- What the kernel reads from memory, entry by entry. -/
module

public import proofs.«01_k».proof.Proof.Launch
public import Idealize.ShloMosaic.Lib.Pipeline.ValueKit
public import Idealize.ShloMosaic.Lib.ValueLayout
public import proofs.«01_k».proof.Proof.Reads

@[expose] public section

set_option maxRecDepth 16384

noncomputable section

namespace Cert.Softmax

open Cert.KernelIdeal Cert.KernelIdeal.Gen
open Idealize.ShloMosaic Idealize.ShloMosaic.TcCoe

variable {F : FTy → Type} [FloatOps F]

variable (m : (ℓ : Loc nD τ sig) → Buf (Elt F) ℓ) (c : Dev nD)

theorem xstg_eq : xstg m c = m ((c : Thread nD τ).loc main_arg0) := by
  funext i
  unfold xstg
  rw [View.read_apply]
  refine congrArg (m ((c : Thread nD τ).loc main_arg0)) (funext fun a => Fin.ext ?_)
  match a with
  | 0 => show 0 * 512 + 1 * (i 0).val = (i 0).val; omega
  | 1 => show 0 * 1024 + 1 * (i 1).val = (i 1).val; omega

theorem wblk_at (k : Fin 16) (a : Fin 1024) (q : Fin 512) :
    wblk m c k (ix2 a q) = m ((c : Thread nD τ).loc main_arg1) (ix2 a (⟨512 * k.val + q.val, by omega⟩ : Fin 8192)) := by
  unfold wblk
  rw [View.read_apply]
  refine congrArg (m ((c : Thread nD τ).loc main_arg1)) (funext fun b => Fin.ext ?_)
  match b with
  | 0 => show 0 + 1 * a.val = a.val; omega
  | 1 => show 512 * k.val + 1 * q.val = 512 * k.val + q.val; omega

theorem wv_at (k : Fin 16) (a : Fin 1024) (q : Fin 512) :
    wv m c k (ix3 0 a q) = wblk m c k (ix2 a q) := by
  unfold wv
  refine congrArg (wblk m c k) ?_
  rw [Equiv.symm_apply_eq]
  exact (Idealize.ShloMosaic.ValueIdx.reshapeEquiv_ix2_1ab _ a q).symm

theorem rdS_at (s : Fin 2) (f : (cc0_scratch2 : Ref sig .tc).ty.Contents (Elt F)) (i : Fin 512) (k : Fin 16) :
    rdS s f (ix3 0 i k) = f (ix3 s i k) := by
  refine congrArg f (funext fun b => Fin.ext ?_)
  match b with
  | 0 => show s.val + 1 * 0 = s.val; omega
  | 1 => show 0 + 1 * i.val = i.val; omega
  | 2 => show 0 + 1 * k.val = k.val; omega

theorem rdP_at (s : Fin 2) (f : (cc0_scratch3 : Ref sig .tc).ty.Contents (Elt F)) (i : Fin 512) (k : Fin 16) :
    rdP s f (ix3 0 i k) = f (ix3 s i k) := by
  refine congrArg f (funext fun b => Fin.ext ?_)
  match b with
  | 0 => show s.val + 1 * 0 = s.val; omega
  | 1 => show 0 + 1 * i.val = i.val; omega
  | 2 => show 0 + 1 * k.val = k.val; omega

theorem stats_at (s : Fin 2) (i : Fin 512) (k : Fin 16) : stats m c (ix3 s i k) = statv m c s k (ix3 0 i 0) := by
  refine congrArg (statv m c s k) (funext fun b => ?_)
  match b with
  | 0 => rfl
  | 1 => rfl
  | 2 => rfl

theorem endsAt_out : endsAt m c (1 : Fin 2) = outC m c := by
  funext i
  refine ((dats m 0 c).arrAt_emb_eq_after_last (1 : Fin 2) t₀ (by decide +kernel) i).trans ?_
  rfl

end Cert.Softmax

end
-- ==== Proof.Logits.lean ====
/- The kernel's result over the extended reals when the arguments hold real numbers: the softmax of the logits. -/
module

public import proofs.«01_k».proof.Proof.Contents

@[expose] public section

set_option maxRecDepth 16384

noncomputable section

namespace Cert.Softmax

open Cert.KernelIdeal Cert.KernelIdeal.Gen
open Idealize.ShloMosaic Idealize.ShloMosaic.TcCoe

/-! ## The logits and their softmax -/

section Logits

variable (X : Fin 512 → Fin 1024 → ℝ) (W : Fin 1024 → Fin 16384 → ℝ)

/-- The logits: the product of the two arguments. -/
def lg (i : Fin 512) (j : Fin 16384) : ℝ := ∑ a, X i a * W a j
/-- The softmax of a row of logits. -/
def soft (i : Fin 512) (j : Fin 16384) : ℝ := Real.exp (lg X W i j) * (∑ j', Real.exp (lg X W i j'))⁻¹
/-- The largest logit of a row in one chunk of columns. -/
def mu (n : Fin 2) (k : Fin 16) (i : Fin 512) : ℝ := (Finset.univ.fold max (⊥ : EReal) fun q : Fin 512 => (lg X W i (colOf n k q) : EReal)).toReal
/-- The sum over one chunk of a row's exponentials. -/
def sg (n : Fin 2) (k : Fin 16) (i : Fin 512) : ℝ := ∑ q, Real.exp (lg X W i (colOf n k q) - mu X W n k i)

theorem mu_eq (n : Fin 2) (k : Fin 16) (i : Fin 512) :
    (Finset.univ.fold max (⊥ : EReal) fun q : Fin 512 => (lg X W i (colOf n k q) : EReal)) = (mu X W n k i : EReal) := by
  obtain ⟨r, hr⟩ := fold_max_coe fun q : Fin 512 => lg X W i (colOf n k q)
  unfold mu
  rw [hr, EReal.toReal_coe]

/-- The two halves' shares make the softmax's denominator, whichever half comes first. -/
theorem halves (n : Fin 2) (i : Fin 512) (M : ℝ) :
    (∑ k, sg X W n k i * Real.exp (mu X W n k i - M)) + ∑ k, Real.exp (mu X W (n + 1) k i - M) * sg X W (n + 1) k i
      = ∑ j, Real.exp (lg X W i j - M) := by
  have h (n : Fin 2) : ∑ k, sg X W n k i * Real.exp (mu X W n k i - M) = ∑ k, ∑ q, Real.exp (lg X W i (colOf n k q) - M) :=
    half_sum (fun k q => lg X W i (colOf n k q)) (fun k => mu X W n k i) M
  rw [h n, Finset.sum_congr rfl fun k _ => mul_comm (Real.exp (mu X W (n + 1) k i - M)) _, h (n + 1),
    sum_cols fun j => Real.exp (lg X W i j - M), Fin.sum_univ_two]
  match n with
  | 0 => rfl
  | 1 => exact add_comm _ _

theorem denom_pos (i : Fin 512) (M : ℝ) : ∑ j, Real.exp (lg X W i j - M) ≠ 0 :=
  (Finset.sum_pos (fun j _ => Real.exp_pos _) ⟨0, Finset.mem_univ _⟩).ne'

/-- A chunk's exponential times its factor is the softmax. -/
theorem scaled_soft (n : Fin 2) (k : Fin 16) (q : Fin 512) (i : Fin 512) (M : ℝ) :
    Real.exp (lg X W i (colOf n k q) - mu X W n k i) * (Real.exp (mu X W n k i - M) * (∑ j, Real.exp (lg X W i j - M))⁻¹)
      = soft X W i (colOf n k q) := by
  rw [← mul_assoc, ← Real.exp_add, sub_add_sub_cancel]
  exact shift (lg X W i) M (colOf n k q)

end Logits

/-! ## The kernel's values -/

section Values

variable (m : (ℓ : Loc nD τ sig) → Buf (Elt Ideal) ℓ) (X : Fin 512 → Fin 1024 → ℝ) (W : Fin 1024 → Fin 16384 → ℝ)

/-- The half of the columns a device holds. -/
def half (c : Dev nD) : Fin 2 := ⟨c.val % 2, Nat.mod_lt _ (by decide)⟩

theorem half_yn : ∀ c : Dev nD, half (ynD c) = half c + 1 := by decide +kernel
theorem half_origin : ∀ (c : Dev nD) (k : Fin 16), half (origin c k) = half c + 1 := by decide +kernel

/-- The arguments hold these real numbers: all of `X` on every device, of `W` the device's half of the columns. -/
structure Holds : Prop where
  x : ∀ (c : Dev nD) (i : Fin 512) (a : Fin 1024), m ((c : Thread nD τ).loc main_arg0) (ix2 i a) = (X i a : EReal)
  w : ∀ (c : Dev nD) (a : Fin 1024) (k : Fin 16) (q : Fin 512),
    m ((c : Thread nD τ).loc main_arg1) (ix2 a (⟨512 * k.val + q.val, by omega⟩ : Fin 8192)) = (W a (colOf (half c) k q) : EReal)

variable {m X W} (H : Holds m X W) (c : Dev nD)
include H

theorem pay3_val (k : Fin 16) (i q : Fin 512) : k0_pay3 (wv m c k) (xbv m c) (ix2 i q) = (lg X W i (colOf (half c) k q) : EReal) := by
  rw [pay3_at]
  unfold lg
  rw [← sum_coe]
  refine Finset.sum_congr rfl fun a _ => ?_
  rw [wv_at, wblk_at, H.w c a k q]
  unfold xbv
  rw [pay2_at, xstg_eq, H.x c i a, EReal.coe_mul]

theorem pay4_val (k : Fin 16) (i : Fin 512) : k0_pay4 (wv m c k) (xbv m c) (ix2 i 0) = (mu X W (half c) k i : EReal) := by
  rw [pay4_at, ← mu_eq]
  exact congrArg (fun f => Finset.univ.fold max (⊥ : EReal) f) (funext fun q => pay3_val H c k i q)

theorem pay5_val (k : Fin 16) (i q : Fin 512) :
    k0_pay5 (wv m c k) (xbv m c) (ix2 i q) = (Real.exp (lg X W i (colOf (half c) k q) - mu X W (half c) k i) : EReal) := by
  rw [pay5_at, pay3_val H, pay4_val H, ← EReal.coe_sub]
  rfl

theorem expv_val (k : Fin 16) (i q : Fin 512) :
    expv m c k (ix2 i q) = (Real.exp (lg X W i (colOf (half c) k q) - mu X W (half c) k i) : EReal) := by
  unfold expv
  rw [pay8_at, pay5_val H]

theorem pay7_val (k : Fin 16) (i : Fin 512) : k0_pay7 (wv m c k) (xbv m c) (ix3 0 i 0) = (sg X W (half c) k i : EReal) := by
  rw [pay7_at]
  unfold sg
  rw [← sum_coe]
  exact Finset.sum_congr rfl fun q _ => pay5_val H c k i q

theorem stat0_val (k : Fin 16) (i : Fin 512) : stats m c (ix3 0 i k) = (mu X W (half c) k i : EReal) := by
  rw [stats_at]
  unfold statv
  rw [if_pos rfl, pay6_at, pay4_val H]

theorem stat1_val (k : Fin 16) (i : Fin 512) : stats m c (ix3 1 i k) = (sg X W (half c) k i : EReal) := by
  rw [stats_at]
  unfold statv
  rw [if_neg (by decide), pay7_val H]

/-- The four readings of the statistics the factors are made of. -/
theorem reads_val (i : Fin 512) (k : Fin 16) :
    rdS 0 (stats m c) (ix3 0 i k) = (mu X W (half c) k i : EReal) ∧ rdS 1 (stats m c) (ix3 0 i k) = (sg X W (half c) k i : EReal)
      ∧ rdP 0 (stats m (ynD c)) (ix3 0 i k) = (mu X W (half c + 1) k i : EReal) ∧ rdP 1 (stats m (ynD c)) (ix3 0 i k) = (sg X W (half c + 1) k i : EReal) := by
  refine ⟨(rdS_at 0 _ i k).trans (stat0_val H c k i), (rdS_at 1 _ i k).trans (stat1_val H c k i), ?_, ?_⟩
  · exact (rdP_at 0 _ i k).trans (half_yn c ▸ stat0_val H (ynD c) k i)
  · exact (rdP_at 1 _ i k).trans (half_yn c ▸ stat1_val H (ynD c) k i)

/-- The number both factors subtract is a real number. -/
theorem top_val (i : Fin 512) : ∃ M : ℝ, k0_pay110 (rdS 0 (stats m c)) (rdP 0 (stats m (ynD c))) (ix2 i 0) = (M : EReal) := by
  rw [pay110_at, Finset.fold_congr fun k _ => (reads_val H c i k).1, Finset.fold_congr fun k _ => (reads_val H c i k).2.2.1]
  obtain ⟨r, hr⟩ := fold_max_coe fun k : Fin 16 => mu X W (half c) k i
  obtain ⟨s, hs⟩ := fold_max_coe fun k : Fin 16 => mu X W (half c + 1) k i
  refine ⟨max r s, ?_⟩
  rw [hr, hs]
  exact (EReal.coe_strictMono.monotone.map_max).symm

/-- The two factors of `c` at a row. -/
theorem fac_val (i : Fin 512) : ∃ M : ℝ, ∀ k : Fin 16,
    facMv m c (ix2 i k) = ((Real.exp (mu X W (half c) k i - M) * (∑ j, Real.exp (lg X W i j - M))⁻¹ : ℝ) : EReal)
      ∧ facOv m c (ix2 i k) = ((Real.exp (mu X W (half c + 1) k i - M) * (∑ j, Real.exp (lg X W i j - M))⁻¹ : ℝ) : EReal) := by
  obtain ⟨M, hM⟩ := top_val H c i
  have hS : k0_pay114 (k0_pay106 (rdS 0 (stats m c))) (k0_pay107 (rdS 1 (stats m c))) (k0_pay108 (rdP 0 (stats m (ynD c)))) (k0_pay109 (rdP 1 (stats m (ynD c))))
      (k0_pay110 (rdS 0 (stats m c)) (rdP 0 (stats m (ynD c)))) (k0_pay111 (rdS 0 (stats m c)) (rdP 0 (stats m (ynD c)))) (ix2 i 0)
        = (((∑ j, Real.exp (lg X W i j - M))⁻¹ : ℝ) : EReal) := by
    rw [pay114_at, hM]
    have e1 (k : Fin 16) : rdS 1 (stats m c) (ix3 0 i k) * Ideal.exp (rdS 0 (stats m c) (ix3 0 i k) - (M : EReal))
        = ((sg X W (half c) k i * Real.exp (mu X W (half c) k i - M) : ℝ) : EReal) := by
      rw [(reads_val H c i k).1, (reads_val H c i k).2.1, ← EReal.coe_sub, EReal.coe_mul]; rfl
    have e2 (k : Fin 16) : Ideal.exp (rdP 0 (stats m (ynD c)) (ix3 0 i k) - (M : EReal)) * rdP 1 (stats m (ynD c)) (ix3 0 i k)
        = ((Real.exp (mu X W (half c + 1) k i - M) * sg X W (half c + 1) k i : ℝ) : EReal) := by
      rw [(reads_val H c i k).2.2.1, (reads_val H c i k).2.2.2, ← EReal.coe_sub, EReal.coe_mul]; rfl
    rw [Finset.sum_congr rfl fun k _ => e1 k, Finset.sum_congr rfl fun k _ => e2 k, sum_coe, sum_coe, ← EReal.coe_add, halves]
    rw [Ideal.div_coe (denom_pos X W i M), one_div, one_mul]
  refine ⟨M, fun k => ⟨?_, ?_⟩⟩
  · unfold facMv
    rw [facM_at, hS, hM, (reads_val H c i k).1, ← EReal.coe_sub, EReal.coe_mul]; rfl
  · unfold facOv
    rw [facO_at, hS, hM, (reads_val H c i k).2.2.1, ← EReal.coe_sub, EReal.coe_mul]; rfl

/-- The kernel's result on every device. -/
theorem out_val (n : Fin 2) (k : Fin 16) (i q : Fin 512) : outC m c (ix2 i (colOf n k q)) = (soft X W i (colOf n k q) : EReal) := by
  obtain ⟨M, hM⟩ := fac_val H c i
  rw [out_at m c (ix2 i (colOf n k q)) k (ix2 i q) n.val rfl rfl]
  by_cases h : n.val = c.val % 2
  · have hn : n = half c := Fin.ext h
    rw [if_pos h, scaled_at, (hM k).1, expv_val H, ← EReal.coe_mul, hn, scaled_soft]
  · have hn : n = half c + 1 := by
      have : ∀ (n : Fin 2) (c : Dev nD), ¬n.val = c.val % 2 → n = half c + 1 := by decide +kernel
      exact this n c h
    rw [if_neg h, scaled_at, (hM k).2]
    unfold expo
    rw [expv_val H, half_origin, ← EReal.coe_mul, hn, scaled_soft]

end Values

end Cert.Softmax

end
-- ==== Proof.Reference.lean ====
/- The reference's result over the extended reals when the arguments hold real numbers: the softmax of the logits. -/
module

public import proofs.«01_k».proof.Proof.Gen.ReferenceIdeal
public import proofs.«01_k».proof.Proof.Gen.ReferenceIdeal.Run
public import proofs.«01_k».proof.Proof.Logits

@[expose] public section

set_option maxRecDepth 16384

noncomputable section

namespace Cert.Softmax

open Idealize.ShloMosaic Idealize.ShloMosaic.TcCoe
open Cert.ReferenceIdeal Cert.ReferenceIdeal.Gen

abbrev T₀ := FVec Ideal Cert.ReferenceIdeal.S512x16384 .f32

/-- The reference's logits. -/
def refD (x : FVec Ideal Cert.ReferenceIdeal.S512x1024 .f32) (w : FVec Ideal Cert.ReferenceIdeal.S1024x16384 .f32) : T₀ :=
  Host.dotGeneral dot_S512x1024_S1024x16384_S512x16384_1_0_0_1_n_n none x w
/-- Their row maxima. -/
def refM (D : T₀) : FVec Ideal Cert.ReferenceIdeal.S512 .f32 :=
  Host.reduce FloatOps.maximumf D (constant Cert.ReferenceIdeal.S_ .f32 0xFF800000#32) reducesTo_S512x16384_S512_d1 h_S_
/-- A value for each row, as an array of the logits' shape. -/
def refB (v : FVec Ideal Cert.ReferenceIdeal.S512 .f32) : T₀ :=
  broadcastInDim Cert.ReferenceIdeal.S512x16384 ![0, 1] bcast_S512x1_S512x16384_0_1 (broadcastInDim Cert.ReferenceIdeal.S512x1 ![0] bcast_S512_S512x1_0 v)
/-- The exponentials. -/
def refE (D : T₀) (M : FVec Ideal Cert.ReferenceIdeal.S512 .f32) : T₀ := Host.exp (subf D (refB M))
/-- Their row sums. -/
def refS (E : T₀) : FVec Ideal Cert.ReferenceIdeal.S512 .f32 :=
  Host.reduceAdd E (constant Cert.ReferenceIdeal.S_ .f32 0x00000000#32) reducesTo_S512x16384_S512_d1 h_S_
/-- The quotient. -/
def refQ (E : T₀) (S : FVec Ideal Cert.ReferenceIdeal.S512 .f32) : FVec Ideal Cert.ReferenceIdeal.S512x16384 .bf16 :=
  truncf .bf16 (Host.divf E (refB S)) bitsLt_bf16_f32
def refAll (x : FVec Ideal Cert.ReferenceIdeal.S512x1024 .f32) (w : FVec Ideal Cert.ReferenceIdeal.S1024x16384 .f32) : FVec Ideal Cert.ReferenceIdeal.S512x16384 .bf16 :=
  refQ (refE (refD x w) (refM (refD x w))) (refS (refE (refD x w) (refM (refD x w))))

theorem refD_at (x : FVec Ideal Cert.ReferenceIdeal.S512x1024 .f32) (w : FVec Ideal Cert.ReferenceIdeal.S1024x16384 .f32) (i : Fin 512) (j : Fin 16384) :
    refD x w (ix2 i j) = ∑ a : Fin 1024, x (ix2 i a) * w (ix2 a j) := by
  pointwise [refD]
theorem refM_at (D : T₀) (i : Fin 512) : refM D (ix1 i) = Finset.univ.fold max (⊥ : EReal) fun j : Fin 16384 => D (ix2 i j) := by
  pointwise [refM]
  rw [show Ideal.ofBits .f32 (4286578688#32 : BitVec 32) = ⊥ from ofBits_bot]
theorem refB_at (v : FVec Ideal Cert.ReferenceIdeal.S512 .f32) (i : Fin 512) (j : Fin 16384) : refB v (ix2 i j) = v (ix1 i) := by
  pointwise [refB]
theorem refE_at (D : T₀) (M : FVec Ideal Cert.ReferenceIdeal.S512 .f32) (i : Fin 512) (j : Fin 16384) :
    refE D M (ix2 i j) = Ideal.exp (D (ix2 i j) - M (ix1 i)) := by
  pointwise [refE, refB]
theorem refS_at (E : T₀) (i : Fin 512) : refS E (ix1 i) = ∑ j : Fin 16384, E (ix2 i j) := by
  pointwise [refS]
theorem refQ_at (E : T₀) (S : FVec Ideal Cert.ReferenceIdeal.S512 .f32) (i : Fin 512) (j : Fin 16384) :
    refQ E S (ix2 i j) = Ideal.div (E (ix2 i j)) (S (ix1 i)) := by
  pointwise [refQ, refB]

/-- Over real arguments the reference's result is the softmax. -/
theorem ref_val (X : Fin 512 → Fin 1024 → ℝ) (W : Fin 1024 → Fin 16384 → ℝ)
    (x : FVec Ideal Cert.ReferenceIdeal.S512x1024 .f32) (w : FVec Ideal Cert.ReferenceIdeal.S1024x16384 .f32)
    (hx : ∀ i a, x (ix2 i a) = (X i a : EReal)) (hw : ∀ a j, w (ix2 a j) = (W a j : EReal)) (i : Fin 512) (j : Fin 16384) :
    refAll x w (ix2 i j) = (soft X W i j : EReal) := by
  unfold refAll
  have hD (j : Fin 16384) : refD x w (ix2 i j) = (lg X W i j : EReal) := by
    rw [refD_at]
    unfold lg
    rw [← sum_coe]
    exact Finset.sum_congr rfl fun a _ => by rw [hx, hw, EReal.coe_mul]
  generalize refD x w = D at hD
  obtain ⟨M, hM⟩ : ∃ M : ℝ, refM D (ix1 i) = (M : EReal) := by
    rw [refM_at, Finset.fold_congr fun j _ => hD j]
    exact fold_max_coe _
  generalize refM D = Mv at hM
  have hE (j : Fin 16384) : refE D Mv (ix2 i j) = (Real.exp (lg X W i j - M) : EReal) := by
    rw [refE_at, hD, hM, ← EReal.coe_sub]; rfl
  generalize refE D Mv = E at hE
  have hS : refS E (ix1 i) = ((∑ j, Real.exp (lg X W i j - M) : ℝ) : EReal) := by
    rw [refS_at, ← sum_coe]; exact Finset.sum_congr rfl fun j _ => hE j
  generalize refS E = S at hS
  rw [refQ_at, hE, hS, Ideal.div_coe (denom_pos X W i M), one_div, ← EReal.coe_mul]
  exact congrArg _ (shift (lg X W i) M j)

end Cert.Softmax

end
-- ==== Proof.Value.lean ====
/- The value claim: from equal arguments, none of them infinite, every device's result is the reference's. -/
module

public import proofs.«01_k».proof.Defs
public import proofs.«01_k».proof.Proof.Frames
public import proofs.«01_k».proof.Proof.Finite
public import proofs.«01_k».proof.Proof.Reference

@[expose] public section

set_option maxRecDepth 16384

noncomputable section

namespace Cert.Softmax

open Cert.KernelIdeal Cert.KernelIdeal.Gen
open Idealize.ShloMosaic Idealize.ShloMosaic.TcCoe Idealize.SL.Sem

/-- Where a device's block of the columns lies in the whole. -/
theorem block_at (c : Dev nD) (w : FVec Ideal Cert.ReferenceIdeal.S1024x16384 .f32) (a : Fin 1024) (k : Fin 16) (q : Fin 512) :
    (Layout.blockN ⟨2, ![1024, 8192]⟩ ⟨2, ![1024, 16384]⟩ (Layout.meshBlock [2, 2] ![[], [1]] c) w) (ix2 a (⟨512 * k.val + q.val, by omega⟩ : Fin 8192))
      = w (ix2 a (colOf (half c) k q)) := by
  rw [Layout.blockN_apply]
  refine congrArg w (funext fun b => Fin.ext ?_)
  have hy : ∀ c : Dev nD, ((Layout.meshBlock [2, 2] ![[], [1]] c) (1 : Fin 2)).val = c.val % 2 := by decide +kernel
  match b with
  | 0 => show 0 * 1024 + a.val = a.val; omega
  | 1 =>
    show ((Layout.meshBlock [2, 2] ![[], [1]] c) (1 : Fin 2)).val * 8192 + (512 * k.val + q.val) = 512 * (16 * (c.val % 2) + k.val) + q.val
    rw [hy c]; omega

theorem algebraic : Cert.algebraic_KernelIdeal_ReferenceIdeal_pre_finite_KernelIdeal := by
  intro m ρ m' ρ' hpre hargs
  let x' : FVec Ideal Cert.ReferenceIdeal.S512x1024 .f32 := m' (((0 : Dev Cert.ReferenceIdeal.nD).tc : Thread Cert.ReferenceIdeal.nD Cert.ReferenceIdeal.τ).loc Cert.ReferenceIdeal.main_arg0)
  let w' : FVec Ideal Cert.ReferenceIdeal.S1024x16384 .f32 := m' (((0 : Dev Cert.ReferenceIdeal.nD).tc : Thread Cert.ReferenceIdeal.nD Cert.ReferenceIdeal.τ).loc Cert.ReferenceIdeal.main_arg1)
  have hfin (c : Dev nD) := finite_entries _ _ (hpre c)
  have hx' (i : Fin 512) (a : Fin 1024) : x' (ix2 i a) = ((EReal.toReal (x' (ix2 i a)) : ℝ) : EReal) := by
    obtain ⟨r, hr⟩ := (hfin 0).1 (ix2 i a)
    have e : x' (ix2 i a) = (r : EReal) := (congrFun (hargs 0).1 (ix2 i a)).symm.trans hr
    rw [e, EReal.toReal_coe]
  have hblk (c : Dev nD) (a : Fin 1024) (k : Fin 16) (q : Fin 512) :
      m ((c : Thread nD τ).loc main_arg1) (ix2 a (⟨512 * k.val + q.val, by omega⟩ : Fin 8192)) = w' (ix2 a (colOf (half c) k q)) :=
    (congrFun (hargs c).2 _).trans (block_at c w' a k q)
  have hw' (a : Fin 1024) (j : Fin 16384) : w' (ix2 a j) = ((EReal.toReal (w' (ix2 a j)) : ℝ) : EReal) := by
    obtain ⟨⟨⟨n, k⟩, q⟩, rfl⟩ := colEquiv.surjective j
    obtain ⟨c, rfl⟩ : ∃ c : Dev nD, half c = n := by revert n; decide +kernel
    obtain ⟨r, hr⟩ := (hfin c).2 (ix2 a (⟨512 * k.val + q.val, by omega⟩ : Fin 8192))
    have e : w' (ix2 a (colOf (half c) k q)) = (r : EReal) := (hblk c a k q).symm.trans hr
    show w' (ix2 a (colOf (half c) k q)) = ((EReal.toReal (w' (ix2 a (colOf (half c) k q))) : ℝ) : EReal)
    rw [e, EReal.toReal_coe]
  have H : Holds m (fun i a => EReal.toReal (x' (ix2 i a))) (fun a j => EReal.toReal (w' (ix2 a j))) :=
    ⟨fun c i a => (congrFun (hargs c).1 (ix2 i a)).trans (hx' i a), fun c a k q => (hblk c a k q).trans (hw' a _)⟩
  have hv (c : Dev nD) : outC m c = refAll x' w' := by
    funext p
    obtain ⟨i, j, rfl⟩ : ∃ (i : Fin 512) (j : Fin 16384), p = ix2 i j := ⟨p 0, p 1, ValueIdx.eq_ix2 p⟩
    obtain ⟨⟨⟨n, k⟩, q⟩, rfl⟩ := colEquiv.surjective j
    exact (out_val H c n k i q).trans (ref_val _ _ x' w' hx' hw' i (colOf n k q)).symm
  refine ⟨refAll x' w', ?_, ?_⟩
  · exact (θ_run defs _ _).mono (fun _ h c => ⟨((h.1 c).1 (1 : Fin 2)).trans ((endsAt_out m c).trans (hv c)),
      ((h.1 c).1 (0 : Fin 2)).trans (endsAt_x m c), (h.1 c).2⟩) (run_main m ρ)
  · exact (θ_run Cert.ReferenceIdeal.defs _ _).mono (fun _ h => ⟨(h 0).1, (h 0).2⟩) (Cert.ReferenceIdeal.Value.run (F := Ideal) m' ρ')

end Cert.Softmax

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Softmax.frame_kernel, Cert.Softmax.frame_kernelIdeal, fun m ρ _ => Cert.Softmax.frame_kernelIdeal m ρ trivial,
  Cert.Softmax.frame_referenceIdeal, fun m ρ _ => Cert.Softmax.frame_referenceIdeal m ρ trivial, trivial, Cert.Softmax.algebraic⟩

end Cert.Proof

end
